-- ==== Defs.lean ====
def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandIdeal_finite_scores [hPre_finite_scores : Cert.Pre_finite_scores.Facts] (m : (ℓ : Loc Cert.BandIdeal.nD Cert.BandIdeal.τ Cert.BandIdeal.sig) → Buf (Elt Ideal) ℓ) : Prop :=
  ∀ c : Dev Cert.BandIdeal.nD,
    (Cert.Pre_finite_scores.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1))).1 = (fun _ => 1#1)
    ∧ (Cert.Pre_finite_scores.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1))).2 = (fun _ => 1#1)

def Pre_BandRefIdeal (m : (ℓ : Loc Cert.BandRefIdeal.nD Cert.BandRefIdeal.τ Cert.BandRefIdeal.sig) → Buf (Elt Ideal) ℓ) : Prop :=
  True

def Pre_BandRefIdeal_finite_scores [hPre_finite_scores : Cert.Pre_finite_scores.Facts] (m : (ℓ : Loc Cert.BandRefIdeal.nD Cert.BandRefIdeal.τ Cert.BandRefIdeal.sig) → Buf (Elt Ideal) ℓ) : Prop :=
  ∀ c : Dev Cert.BandRefIdeal.nD,
    (Cert.Pre_finite_scores.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1))).1 = (fun _ => 1#1)
    ∧ (Cert.Pre_finite_scores.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1))).2 = (fun _ => 1#1)

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffRefIdeal (m : (ℓ : Loc Cert.DiffRefIdeal.nD Cert.DiffRefIdeal.τ Cert.DiffRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossRefIdeal (m : (ℓ : Loc Cert.CrossRefIdeal.nD Cert.CrossRefIdeal.τ Cert.CrossRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Cast (m : (ℓ : Loc Cert.Cast.nD Cert.Cast.τ Cert.Cast.sig) → Buf (Elt Bits) ℓ) : Prop :=
  True

def Pre_CastIdeal (m : (ℓ : Loc Cert.CastIdeal.nD Cert.CastIdeal.τ Cert.CastIdeal.sig) → Buf (Elt Ideal) ℓ) : Prop :=
  True

def Pre_CastRefIdeal (m : (ℓ : Loc Cert.CastRefIdeal.nD Cert.CastRefIdeal.τ Cert.CastRefIdeal.sig) → Buf (Elt Ideal) ℓ) : Prop :=
  True

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ r.2.sem = fun _ => 0)

def quiescent_BandIdeal_pre_finite_scores [hBandIdeal : Cert.BandIdeal.Facts] [hPre_finite_scores : Cert.Pre_finite_scores.Facts] : Prop :=
  ∀ (m : (ℓ : Loc Cert.BandIdeal.nD Cert.BandIdeal.τ Cert.BandIdeal.sig) → Buf (Elt Ideal) ℓ) (g : Dev Cert.BandIdeal.nD → PrngReg), Pre_BandIdeal_finite_scores m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1))
      ∧ r.2.sem = fun _ => 0)

def quiescent_BandRefIdeal_pre_finite_scores [hBandRefIdeal : Cert.BandRefIdeal.Facts] [hPre_finite_scores : Cert.Pre_finite_scores.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal_finite_scores m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_Cast [hCast : Cert.Cast.Facts] : Prop :=
  ∀ (m : (ℓ : Loc Cert.Cast.nD Cert.Cast.τ Cert.Cast.sig) → Buf (Elt Bits) ℓ) (g : Dev Cert.Cast.nD → PrngReg), Pre_Cast m →
    θ_run (Cert.Cast.defs (F := Bits)) (onTc (τ := Cert.Cast.τ) (Cert.Cast.main (F := Bits))) ⟨m, fun _ => 0, g⟩ (fun r => (∀ c : Dev Cert.Cast.nD,
      r.2.mem ((c.tc : Thread Cert.Cast.nD Cert.Cast.τ).loc Cert.Cast.main_arg0) = m ((c.tc : Thread Cert.Cast.nD Cert.Cast.τ).loc Cert.Cast.main_arg0))
      ∧ r.2.sem = fun _ => 0)

def quiescent_CastIdeal [hCastIdeal : Cert.CastIdeal.Facts] : Prop :=
  ∀ (m : (ℓ : Loc Cert.CastIdeal.nD Cert.CastIdeal.τ Cert.CastIdeal.sig) → Buf (Elt Ideal) ℓ) (g : Dev Cert.CastIdeal.nD → PrngReg), Pre_CastIdeal m →
    θ_run (Cert.CastIdeal.defs (F := Ideal)) (onTc (τ := Cert.CastIdeal.τ) (Cert.CastIdeal.main (F := Ideal))) ⟨m, fun _ => 0, g⟩ (fun r => (∀ c : Dev Cert.CastIdeal.nD,
      r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ r.2.sem = fun _ => 0)

def quiescent_CastRefIdeal [hCastRefIdeal : Cert.CastRefIdeal.Facts] : Prop :=
  ∀ (m : (ℓ : Loc Cert.CastRefIdeal.nD Cert.CastRefIdeal.τ Cert.CastRefIdeal.sig) → Buf (Elt Ideal) ℓ) (g : Dev Cert.CastRefIdeal.nD → PrngReg), Pre_CastRefIdeal m →
    θ_run (Cert.CastRefIdeal.defs (F := Ideal)) (onTc (τ := Cert.CastRefIdeal.τ) (Cert.CastRefIdeal.main (F := Ideal))) ⟨m, fun _ => 0, g⟩ (fun r => (∀ c : Dev Cert.CastRefIdeal.nD,
      r.2.mem ((c.tc : Thread Cert.CastRefIdeal.nD Cert.CastRefIdeal.τ).loc Cert.CastRefIdeal.main_arg0) = m ((c.tc : Thread Cert.CastRefIdeal.nD Cert.CastRefIdeal.τ).loc Cert.CastRefIdeal.main_arg0))
      ∧ r.2.sem = fun _ => 0)

def preserves_Band_BandIdeal : Prop :=
  True

def algebraic_BandIdeal_BandRefIdeal_pre_finite_scores [hBandIdeal : Cert.BandIdeal.Facts] [hBandRefIdeal : Cert.BandRefIdeal.Facts] [hPre_finite_scores : Cert.Pre_finite_scores.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal_finite_scores m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)
      ∧ m' ((c.tc : Thread Cert.BandRefIdeal.nD Cert.BandRefIdeal.τ).loc Cert.BandRefIdeal.main_arg1) = m ((c.tc : Thread Cert.BandIdeal.nD Cert.BandIdeal.τ).loc Cert.BandIdeal.main_arg1)) →
    ∃ (v0 : (c : Dev Cert.BandIdeal.nD) → Buf (Elt Ideal) ((c.tc : Thread Cert.BandIdeal.nD Cert.BandIdeal.τ).loc Cert.BandIdeal.main_v37)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v37) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v57) = v0 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0)
          ∧ r.2.mem ((c.tc : Thread Cert.BandRefIdeal.nD Cert.BandRefIdeal.τ).loc Cert.BandRefIdeal.main_arg1) = m' ((c.tc : Thread Cert.BandRefIdeal.nD Cert.BandRefIdeal.τ).loc Cert.BandRefIdeal.main_arg1))

def preserves_Diff_DiffIdeal : Prop :=
  IdealRules.named_const.Statement Cert.DiffIdeal.κ "mask" .f32 0xF149F2CA#32 ⊥

def algebraic_DiffIdeal_DiffRefIdeal [hDiffIdeal : Cert.DiffIdeal.Facts] [hDiffRefIdeal : Cert.DiffRefIdeal.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)
      ∧ m' ((c.tc : Thread Cert.DiffRefIdeal.nD Cert.DiffRefIdeal.τ).loc Cert.DiffRefIdeal.main_arg5) = m ((c.tc : Thread Cert.DiffIdeal.nD Cert.DiffIdeal.τ).loc Cert.DiffIdeal.main_arg5)) →
    ∃ (v0 : (c : Dev Cert.DiffIdeal.nD) → Buf (Elt Ideal) ((c.tc : Thread Cert.DiffIdeal.nD Cert.DiffIdeal.τ).loc Cert.DiffIdeal.main_v34)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v34) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v105) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4)
          ∧ r.2.mem ((c.tc : Thread Cert.DiffRefIdeal.nD Cert.DiffRefIdeal.τ).loc Cert.DiffRefIdeal.main_arg5) = m' ((c.tc : Thread Cert.DiffRefIdeal.nD Cert.DiffRefIdeal.τ).loc Cert.DiffRefIdeal.main_arg5))

def preserves_Cross_CrossIdeal : Prop :=
  True

def algebraic_CrossIdeal_CrossRefIdeal [hCrossIdeal : Cert.CrossIdeal.Facts] [hCrossRefIdeal : Cert.CrossRefIdeal.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)) →
    ∃ (v0 : (c : Dev Cert.CrossIdeal.nD) → Buf (Elt Ideal) ((c.tc : Thread Cert.CrossIdeal.nD Cert.CrossIdeal.τ).loc Cert.CrossIdeal.main_v0)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v0) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v27) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v29) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v1) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_Cast_CastIdeal : Prop :=
  True

def algebraic_CastIdeal_CastRefIdeal [hCastIdeal : Cert.CastIdeal.Facts] [hCastRefIdeal : Cert.CastRefIdeal.Facts] : Prop :=
  ∀ (m : (ℓ : Loc Cert.CastIdeal.nD Cert.CastIdeal.τ Cert.CastIdeal.sig) → Buf (Elt Ideal) ℓ) (g : Dev Cert.CastIdeal.nD → PrngReg)
    (m' : (ℓ : Loc Cert.CastRefIdeal.nD Cert.CastRefIdeal.τ Cert.CastRefIdeal.sig) → Buf (Elt Ideal) ℓ) (g' : Dev Cert.CastRefIdeal.nD → PrngReg), Pre_CastIdeal m →
    (∀ c : Dev Cert.CastIdeal.nD,
      m' ((c.tc : Thread Cert.CastRefIdeal.nD Cert.CastRefIdeal.τ).loc Cert.CastRefIdeal.main_arg0) = m ((c.tc : Thread Cert.CastIdeal.nD Cert.CastIdeal.τ).loc Cert.CastIdeal.main_arg0)) →
    ∃ (v0 : (c : Dev Cert.CastIdeal.nD) → Buf (Elt Ideal) ((c.tc : Thread Cert.CastIdeal.nD Cert.CastIdeal.τ).loc Cert.CastIdeal.main_v0)),
      θ_run (Cert.CastIdeal.defs (F := Ideal)) (onTc (τ := Cert.CastIdeal.τ) (Cert.CastIdeal.main (F := Ideal))) ⟨m, fun _ => 0, g⟩ (fun r => ∀ c : Dev Cert.CastIdeal.nD,
          r.2.mem ((c.tc : Thread Cert.CastIdeal.nD Cert.CastIdeal.τ).loc Cert.CastIdeal.main_v0) = v0 c
          ∧ r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ θ_run (Cert.CastRefIdeal.defs (F := Ideal)) (onTc (τ := Cert.CastRefIdeal.τ) (Cert.CastRefIdeal.main (F := Ideal))) ⟨m', fun _ => 0, g'⟩ (fun r => ∀ c : Dev Cert.CastRefIdeal.nD,
          r.2.mem ((c.tc : Thread Cert.CastRefIdeal.nD Cert.CastRefIdeal.τ).loc Cert.CastRefIdeal.main_v0) = v0 c
          ∧ r.2.mem ((c.tc : Thread Cert.CastRefIdeal.nD Cert.CastRefIdeal.τ).loc Cert.CastRefIdeal.main_arg0) = m' ((c.tc : Thread Cert.CastRefIdeal.nD Cert.CastRefIdeal.τ).loc Cert.CastRefIdeal.main_arg0))

def Claim : Prop :=
  ∃ (hBand : Cert.Band.Facts) (hBandIdeal : Cert.BandIdeal.Facts) (hBandRefIdeal : Cert.BandRefIdeal.Facts) (hDiff : Cert.Diff.Facts) (hDiffIdeal : Cert.DiffIdeal.Facts) (hDiffRefIdeal : Cert.DiffRefIdeal.Facts) (hCross : Cert.Cross.Facts) (hCrossIdeal : Cert.CrossIdeal.Facts) (hCrossRefIdeal : Cert.CrossRefIdeal.Facts) (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts) (hMemKv : Cert.MemKv.Facts) (hMemKvIdeal : Cert.MemKvIdeal.Facts) (hMemKvRefIdeal : Cert.MemKvRefIdeal.Facts) (hOutProj : Cert.OutProj.Facts) (hOutProjIdeal : Cert.OutProjIdeal.Facts) (hOutProjRefIdeal : Cert.OutProjRefIdeal.Facts) (hCast : Cert.Cast.Facts) (hCastIdeal : Cert.CastIdeal.Facts) (hCastRefIdeal : Cert.CastRefIdeal.Facts) (hPre_finite_scores : Cert.Pre_finite_scores.Facts),
    quiescent_Band (hBand := hBand)
    ∧ quiescent_BandIdeal (hBandIdeal := hBandIdeal)
    ∧ quiescent_BandIdeal_pre_finite_scores (hBandIdeal := hBandIdeal) (hPre_finite_scores := hPre_finite_scores)
    ∧ quiescent_BandRefIdeal (hBandRefIdeal := hBandRefIdeal)
    ∧ quiescent_BandRefIdeal_pre_finite_scores (hBandRefIdeal := hBandRefIdeal) (hPre_finite_scores := hPre_finite_scores)
    ∧ quiescent_Diff (hDiff := hDiff)
    ∧ quiescent_DiffIdeal (hDiffIdeal := hDiffIdeal)
    ∧ quiescent_DiffRefIdeal (hDiffRefIdeal := hDiffRefIdeal)
    ∧ quiescent_Cross (hCross := hCross)
    ∧ quiescent_CrossIdeal (hCrossIdeal := hCrossIdeal)
    ∧ quiescent_CrossRefIdeal (hCrossRefIdeal := hCrossRefIdeal)
    ∧ quiescent_Merge (hMerge := hMerge)
    ∧ quiescent_MergeIdeal (hMergeIdeal := hMergeIdeal)
    ∧ quiescent_MergeRefIdeal (hMergeRefIdeal := hMergeRefIdeal)
    ∧ quiescent_InProj (hInProj := hInProj)
    ∧ quiescent_InProjIdeal (hInProjIdeal := hInProjIdeal)
    ∧ quiescent_InProjRefIdeal (hInProjRefIdeal := hInProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Cast (hCast := hCast)
    ∧ quiescent_CastIdeal (hCastIdeal := hCastIdeal)
    ∧ quiescent_CastRefIdeal (hCastRefIdeal := hCastRefIdeal)
    ∧ preserves_Band_BandIdeal
    ∧ algebraic_BandIdeal_BandRefIdeal_pre_finite_scores (hBandIdeal := hBandIdeal) (hBandRefIdeal := hBandRefIdeal) (hPre_finite_scores := hPre_finite_scores)
    ∧ preserves_Diff_DiffIdeal
    ∧ algebraic_DiffIdeal_DiffRefIdeal (hDiffIdeal := hDiffIdeal) (hDiffRefIdeal := hDiffRefIdeal)
    ∧ preserves_Cross_CrossIdeal
    ∧ algebraic_CrossIdeal_CrossRefIdeal (hCrossIdeal := hCrossIdeal) (hCrossRefIdeal := hCrossRefIdeal)
    ∧ preserves_Merge_MergeIdeal
    ∧ algebraic_MergeIdeal_MergeRefIdeal (hMergeIdeal := hMergeIdeal) (hMergeRefIdeal := hMergeRefIdeal)
    ∧ preserves_InProj_InProjIdeal
    ∧ algebraic_InProjIdeal_InProjRefIdeal (hInProjIdeal := hInProjIdeal) (hInProjRefIdeal := hInProjRefIdeal)
    ∧ preserves_MemKv_MemKvIdeal
    ∧ algebraic_MemKvIdeal_MemKvRefIdeal (hMemKvIdeal := hMemKvIdeal) (hMemKvRefIdeal := hMemKvRefIdeal)
    ∧ preserves_OutProj_OutProjIdeal
    ∧ algebraic_OutProjIdeal_OutProjRefIdeal (hOutProjIdeal := hOutProjIdeal) (hOutProjRefIdeal := hOutProjRefIdeal)
    ∧ preserves_Cast_CastIdeal
    ∧ algebraic_CastIdeal_CastRefIdeal (hCastIdeal := hCastIdeal) (hCastRefIdeal := hCastRefIdeal)
-- ==== Pre_finite_scores.lean ====
abbrev S8192x10240 : Shape := ⟨2, ![8192, 10240]⟩
abbrev S16x257 : Shape := ⟨2, ![16, 257]⟩
abbrev S8192x4096 : Shape := ⟨2, ![8192, 4096]⟩
abbrev S_ : Shape := ⟨0, ![]⟩

class Facts : Prop where
  slices_S8192x10240_S8192x4096_0_0 : S8192x10240.Slices ![0, 0] S8192x4096
  bcast_S_S8192x4096 : S_.BroadcastsInDim S8192x4096 (![] : Fin 0 → Fin S8192x4096.rank)
  bcast_S_S16x257 : S_.BroadcastsInDim S16x257 (![] : Fin 0 → Fin S16x257.rank)

variable [Facts]

def fn {F : FTy → Type} [FloatOps F] (main_arg0 : FVec F S8192x10240 .bf16) (main_arg1 : FVec F S16x257 .f32) : IVec S8192x4096 1 × IVec S16x257 1 :=
  let main_v0 : FVec F S8192x4096 .bf16 := (extractStridedSlice S8192x4096 ![0, 0] · slices_S8192x10240_S8192x4096_0_0) main_arg0
  let main_v1 : FVec F S8192x4096 .bf16 := Host.absf main_v0
  let main_cst : FVec F S_ .bf16 := constant S_ .bf16 0x7F80#16
  let main_v2 : FVec F S8192x4096 .bf16 := broadcastInDim S8192x4096 ![] bcast_S_S8192x4096 main_cst
  let main_v3 : IVec S8192x4096 1 := cmpf .olt main_v1 main_v2
  let main_v4 : FVec F S16x257 .f32 := Host.absf main_arg1
  let main_cst_0 : FVec F S_ .f32 := constant S_ .f32 0x7F800000#32
  let main_v5 : FVec F S16x257 .f32 := broadcastInDim S16x257 ![] bcast_S_S16x257 main_cst_0
  let main_v6 : IVec S16x257 1 := cmpf .olt main_v4 main_v5
  (main_v3, main_v6)
-- ==== Band.lean ====
abbrev S8192x10240 : Shape := ⟨2, ![8192, 10240]⟩
abbrev S16x257 : Shape := ⟨2, ![16, 257]⟩
abbrev S5 : Shape := ⟨1, ![5]⟩
abbrev S5x1x1 : Shape := ⟨3, ![5, 1, 1]⟩
abbrev S128 : Shape := ⟨1, ![128]⟩
abbrev S1x128x1 : Shape := ⟨3, ![1, 128, 1]⟩
abbrev S640 : Shape := ⟨1, ![640]⟩
abbrev S1x1x640 : Shape := ⟨3, ![1, 1, 640]⟩
abbrev S_ : Shape := ⟨0, ![]⟩
abbrev S5x128x1 : Shape := ⟨3, ![5, 128, 1]⟩
abbrev S5x128x640 : Shape := ⟨3, ![5, 128, 640]⟩
abbrev S5x128x640x1 : Shape := ⟨4, ![5, 128, 640, 1]⟩
abbrev S16x5x128x640 : Shape := ⟨4, ![16, 5, 128, 640]⟩
abbrev S1x5x128x640 : Shape := ⟨4, ![1, 5, 128, 640]⟩
abbrev S5x16x128x640 : Shape := ⟨4, ![5, 16, 128, 640]⟩
abbrev S8192x2048 : Shape := ⟨2, ![8192, 2048]⟩
abbrev S128x512 : Shape := ⟨2, ![128, 512]⟩
abbrev S2048x512 : Shape := ⟨2, ![2048, 512]⟩
abbrev S5x4x128x640 : Shape := ⟨4, ![5, 4, 128, 640]⟩
abbrev S128x128 : Shape := ⟨2, ![128, 128]⟩
abbrev S640x128 : Shape := ⟨2, ![640, 128]⟩
abbrev S128x640 : Shape := ⟨2, ![128, 640]⟩
abbrev S1x1x128x640 : Shape := ⟨4, ![1, 1, 128, 640]⟩
abbrev S128x1 : Shape := ⟨2, ![128, 1]⟩

abbrev nBuf : Space → Nat
  | .hbm => 91
  | .vmem => 10
  | .smem => 0
  | _ => 0

abbrev bufTy : (tb : Table) → Fin (tcTables nBuf tb) → BufTy
  | .hbm, ⟨0, _⟩ => ⟨S8192x10240, .bf16⟩
  | .hbm, ⟨1, _⟩ => ⟨S16x257, .f32⟩
  | .hbm, ⟨2, _⟩ => ⟨S5, .i32⟩
  | .hbm, ⟨3, _⟩ => ⟨S5x1x1, .i32⟩
  | .hbm, ⟨4, _⟩ => ⟨S128, .i32⟩
  | .hbm, ⟨5, _⟩ => ⟨S1x128x1, .i32⟩
  | .hbm, ⟨6, _⟩ => ⟨S640, .i32⟩
  | .hbm, ⟨7, _⟩ => ⟨S1x1x640, .i32⟩
  | .hbm, ⟨8, _⟩ => ⟨S_, .i32⟩
  | .hbm, ⟨9, _⟩ => ⟨S5x1x1, .i32⟩
  | .hbm, ⟨10, _⟩ => ⟨S5x1x1, .i32⟩
  | .hbm, ⟨11, _⟩ => ⟨S5x128x1, .i32⟩
  | .hbm, ⟨12, _⟩ => ⟨S5x128x1, .i32⟩
  | .hbm, ⟨13, _⟩ => ⟨S5x128x1, .i32⟩
  | .hbm, ⟨14, _⟩ => ⟨S_, .i32⟩
  | .hbm, ⟨15, _⟩ => ⟨S_, .i32⟩
  | .hbm, ⟨16, _⟩ => ⟨S5x128x1, .i32⟩
  | .hbm, ⟨17, _⟩ => ⟨S5x128x1, .i32⟩
  | .hbm, ⟨18, _⟩ => ⟨S5x128x1, .i32⟩
  | .hbm, ⟨19, _⟩ => ⟨S_, .i32⟩
  | .hbm, ⟨20, _⟩ => ⟨S5x128x1, .i32⟩
  | .hbm, ⟨21, _⟩ => ⟨S5x128x1, .i1⟩
  | .hbm, ⟨22, _⟩ => ⟨S5x128x1, .i32⟩
  | .hbm, ⟨23, _⟩ => ⟨S5x128x1, .i32⟩
  | .hbm, ⟨24, _⟩ => ⟨S_, .i32⟩
  | .hbm, ⟨25, _⟩ => ⟨S5x128x1, .i32⟩
  | .hbm, ⟨26, _⟩ => ⟨S5x128x1, .i1⟩
  | .hbm, ⟨27, _⟩ => ⟨S5x128x1, .i1⟩
  | .hbm, ⟨28, _⟩ => ⟨S_, .i32⟩
  | .hbm, ⟨29, _⟩ => ⟨S5x128x1, .i32⟩
  | .hbm, ⟨30, _⟩ => ⟨S5x128x1, .i32⟩
  | .hbm, ⟨31, _⟩ => ⟨S5x128x1, .i32⟩
  | .hbm, ⟨32, _⟩ => ⟨S_, .i32⟩
  | .hbm, ⟨33, _⟩ => ⟨S_, .i32⟩
  | .hbm, ⟨34, _⟩ => ⟨S1x1x640, .i32⟩
  | .hbm, ⟨35, _⟩ => ⟨S1x1x640, .i32⟩
  | .hbm, ⟨36, _⟩ => ⟨S1x1x640, .i32⟩
  | .hbm, ⟨37, _⟩ => ⟨S_, .i32⟩
  | .hbm, ⟨38, _⟩ => ⟨S1x1x640, .i32⟩
  | .hbm, ⟨39, _⟩ => ⟨S1x1x640, .i1⟩
  | .hbm, ⟨40, _⟩ => ⟨S1x1x640, .i32⟩
  | .hbm, ⟨41, _⟩ => ⟨S1x1x640, .i32⟩
  | .hbm, ⟨42, _⟩ => ⟨S_, .i32⟩
  | .hbm, ⟨43, _⟩ => ⟨S1x1x640, .i32⟩
  | .hbm, ⟨44, _⟩ => ⟨S1x1x640, .i1⟩
  | .hbm, ⟨45, _⟩ => ⟨S1x1x640, .i1⟩
  | .hbm, ⟨46, _⟩ => ⟨S_, .i32⟩
  | .hbm, ⟨47, _⟩ => ⟨S1x1x640, .i32⟩
  | .hbm, ⟨48, _⟩ => ⟨S1x1x640, .i32⟩
  | .hbm, ⟨49, _⟩ => ⟨S1x1x640, .i32⟩
  | .hbm, ⟨50, _⟩ => ⟨S5x128x640, .i32⟩
  | .hbm, ⟨51, _⟩ => ⟨S5x128x640, .i32⟩
  | .hbm, ⟨52, _⟩ => ⟨S5x128x640, .i32⟩
  | .hbm, ⟨53, _⟩ => ⟨S_, .i32⟩
  | .hbm, ⟨54, _⟩ => ⟨S5x128x640, .i32⟩
  | .hbm, ⟨55, _⟩ => ⟨S5x128x640, .i1⟩
  | .hbm, ⟨56, _⟩ => ⟨S_, .i32⟩
  | .hbm, ⟨57, _⟩ => ⟨S5x128x640, .i32⟩
  | .hbm, ⟨58, _⟩ => ⟨S5x128x640, .i1⟩
  | .hbm, ⟨59, _⟩ => ⟨S5x128x640, .i1⟩
  | .hbm, ⟨60, _⟩ => ⟨S5x128x640, .i32⟩
  | .hbm, ⟨61, _⟩ => ⟨S5x128x640, .i32⟩
  | .hbm, ⟨62, _⟩ => ⟨S5x128x640, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S5x128x640, .i32⟩
  | .hbm, ⟨67, _⟩ => ⟨S5x128x640, .i32⟩
  | .hbm, ⟨68, _⟩ => ⟨S_, .i32⟩
  | .hbm, ⟨69, _⟩ => ⟨S5x128x640, .i32⟩
  | .hbm, ⟨70, _⟩ => ⟨S5x128x640, .i32⟩
  | .hbm, ⟨71, _⟩ => ⟨S_, .i32⟩
  | .hbm, ⟨72, _⟩ => ⟨S5x128x640, .i32⟩
  | .hbm, ⟨73, _⟩ => ⟨S5x128x640, .i32⟩
  | .hbm, ⟨74, _⟩ => ⟨S_, .i32⟩
  | .hbm, ⟨75, _⟩ => ⟨S5x128x640, .i32⟩
  | .hbm, ⟨76, _⟩ => ⟨S5x128x640, .i1⟩
  | .hbm, ⟨77, _⟩ => ⟨S_, .i32⟩
  | .hbm, ⟨78, _⟩ => ⟨S5x128x640, .i32⟩
  | .hbm, ⟨79, _⟩ => ⟨S5x128x640, .i32⟩
  | .hbm, ⟨80, _⟩ => ⟨S5x128x640, .i32⟩
  | .hbm, ⟨81, _⟩ => ⟨S5x128x640x1, .i32⟩
  | .hbm, ⟨82, _⟩ => ⟨S16x5x128x640, .f32⟩
  | .hbm, ⟨83, _⟩ => ⟨S1x5x128x640, .i1⟩
  | .hbm, ⟨84, _⟩ => ⟨S_, .f32⟩
  | .hbm, ⟨85, _⟩ => ⟨S_, .f32⟩
  | .hbm, ⟨86, _⟩ => ⟨S16x5x128x640, .i1⟩
  | .hbm, ⟨87, _⟩ => ⟨S16x5x128x640, .f32⟩
  | .hbm, ⟨88, _⟩ => ⟨S16x5x128x640, .f32⟩
  | .hbm, ⟨89, _⟩ => ⟨S5x16x128x640, .f32⟩
  | .hbm, ⟨90, _⟩ => ⟨S8192x2048, .bf16⟩
  | .local _ .vmem, ⟨0, _⟩ => ⟨S128x512, .bf16⟩
  | .local _ .vmem, ⟨1, _⟩ => ⟨S128x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S5x4x128x640, .f32⟩
  | .local _ .vmem, ⟨7, _⟩ => ⟨S5x4x128x640, .f32⟩
  | .local _ .vmem, ⟨8, _⟩ => ⟨S128x512, .bf16⟩
  | .local _ .vmem, ⟨9, _⟩ => ⟨S128x512, .bf16⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v11 : Ref sig .tc := ⟨.hbm, 31, rfl⟩
abbrev main_c_1 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_c_2 : Ref sig .tc := ⟨.hbm, 53, rfl⟩
abbrev main_v16 : Ref sig .tc := ⟨.hbm, 54, rfl⟩
abbrev main_v17 : Ref sig .tc := ⟨.hbm, 55, rfl⟩
abbrev main_c_3 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_c_4 : Ref sig .tc := ⟨.hbm, 63, rfl⟩
abbrev main_c_5 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_v24 : Ref sig .tc := ⟨.hbm, 70, rfl⟩
abbrev main_c_6 : Ref sig .tc := ⟨.hbm, 71, rfl⟩
abbrev main_v25 : Ref sig .tc := ⟨.hbm, 72, rfl⟩
abbrev main_v26 : Ref sig .tc := ⟨.hbm, 73, rfl⟩
abbrev main_c_7 : Ref sig .tc := ⟨.hbm, 74, rfl⟩
abbrev main_v27 : Ref sig .tc := ⟨.hbm, 75, rfl⟩
abbrev main_v28 : Ref sig .tc := ⟨.hbm, 76, rfl⟩
abbrev main_c_8 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 16], ![false, false, false]⟩

def k0_mult1 (i : grid0.Coords) : BitVec 32 :=
  let arg2 : BitVec 32 := BitVec.ofNat 32 (i 2).val
  let c4_i32_0 : BitVec 32 := 4#32
  let v1 : BitVec 32 := Scalar.subi arg2 c4_i32_0
  let c0_i32 : BitVec 32 := 0#32
  let v2 : BitVec 32 := Scalar.maxsi v1 c0_i32
  let c128_i32 : BitVec 32 := 128#32
  let v3 : BitVec 32 := Scalar.muli v2 c128_i32
  v3
def k0_off1 (i : grid0.Coords) : Fin 2 → Nat :=
  let arg2 : BitVec 32 := BitVec.ofNat 32 (i 2).val
  let c4_i32_0 : BitVec 32 := 4#32
  let v1 : BitVec 32 := Scalar.subi arg2 c4_i32_0
  let c0_i32 : BitVec 32 := 0#32
  let v2 : BitVec 32 := Scalar.maxsi v1 c0_i32
  let c128_i32 : BitVec 32 := 128#32
  let v3 : BitVec 32 := Scalar.muli v2 c128_i32
  let v4 : BitVec 32 := v3
  let v6 : Index := Scalar.indexCast v4
  let c0_2 : Index := 0#32
  ![v6.toNat, 0]
def k0_off2 (i : grid0.Coords) : Fin 4 → Nat :=
  let arg2 : BitVec 32 := BitVec.ofNat 32 (i 2).val
  let c4_i32 : BitVec 32 := 4#32
  let v0 : BitVec 32 := Scalar.minsi arg2 c4_i32
  let v13 : Index := Scalar.indexCast v0
  let c0_5 : Index := 0#32
  let c0_6 : Index := 0#32
  let c0_7 : Index := 0#32
  ![v13.toNat, 0, 0, 0]
def k0_off3 (i : grid0.Coords) : Fin 2 → Nat :=
  let arg2 : BitVec 32 := BitVec.ofNat 32 (i 2).val
  let c4_i32_0 : BitVec 32 := 4#32
  let v1 : BitVec 32 := Scalar.subi arg2 c4_i32_0
  let c0_i32 : BitVec 32 := 0#32
  let v2 : BitVec 32 := Scalar.maxsi v1 c0_i32
  let c128_i32 : BitVec 32 := 128#32
  let v3 : BitVec 32 := Scalar.muli v2 c128_i32
  let v4 : BitVec 32 := v3
  let v31 : Index := Scalar.indexCast v4
  let c128_14 : Index := 128#32
  ![v31.toNat, 128]
def k0_off4 (i : grid0.Coords) : Fin 4 → Nat :=
  let arg2 : BitVec 32 := BitVec.ofNat 32 (i 2).val
  let c4_i32 : BitVec 32 := 4#32
  let v0 : BitVec 32 := Scalar.minsi arg2 c4_i32
  let v38 : Index := Scalar.indexCast v0
  let c1 : Index := 1#32
  let c0_18 : Index := 0#32
  let c0_19 : Index := 0#32
  ![v38.toNat, 1, 0, 0]
def k0_off5 (i : grid0.Coords) : Fin 2 → Nat :=
  let arg2 : BitVec 32 := BitVec.ofNat 32 (i 2).val
  let c4_i32_0 : BitVec 32 := 4#32
  let v1 : BitVec 32 := Scalar.subi arg2 c4_i32_0
  let c0_i32 : BitVec 32 := 0#32
  let v2 : BitVec 32 := Scalar.maxsi v1 c0_i32
  let c128_i32 : BitVec 32 := 128#32
  let v3 : BitVec 32 := Scalar.muli v2 c128_i32
  let v4 : BitVec 32 := v3
  let v56 : Index := Scalar.indexCast v4
  let c256_26 : Index := 256#32
  ![v56.toNat, 256]
def k0_off6 (i : grid0.Coords) : Fin 4 → Nat :=
  let arg2 : BitVec 32 := BitVec.ofNat 32 (i 2).val
  let c4_i32 : BitVec 32 := 4#32
  let v0 : BitVec 32 := Scalar.minsi arg2 c4_i32
  let v63 : Index := Scalar.indexCast v0
  let c2 : Index := 2#32
  let c0_30 : Index := 0#32
  let c0_31 : Index := 0#32
  ![v63.toNat, 2, 0, 0]
def k0_off7 (i : grid0.Coords) : Fin 2 → Nat :=
  let arg2 : BitVec 32 := BitVec.ofNat 32 (i 2).val
  let c4_i32_0 : BitVec 32 := 4#32
  let v1 : BitVec 32 := Scalar.subi arg2 c4_i32_0
  let c0_i32 : BitVec 32 := 0#32
  let v2 : BitVec 32 := Scalar.maxsi v1 c0_i32
  let c128_i32 : BitVec 32 := 128#32
  let v3 : BitVec 32 := Scalar.muli v2 c128_i32
  let v4 : BitVec 32 := v3
  let v81 : Index := Scalar.indexCast v4
  let c384_38 : Index := 384#32
  ![v81.toNat, 384]
def k0_off8 (i : grid0.Coords) : Fin 4 → Nat :=
  let arg2 : BitVec 32 := BitVec.ofNat 32 (i 2).val
  let c4_i32 : BitVec 32 := 4#32
  let v0 : BitVec 32 := Scalar.minsi arg2 c4_i32
  let v88 : Index := Scalar.indexCast v0
  let c3 : Index := 3#32
  let c0_42 : Index := 0#32
  let c0_43 : Index := 0#32
  ![v88.toNat, 3, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S5x4x128x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== BandRefIdeal.lean ====
abbrev S8192x10240 : Shape := ⟨2, ![8192, 10240]⟩
abbrev S16x257 : Shape := ⟨2, ![16, 257]⟩
abbrev S4x2048x10240 : Shape := ⟨3, ![4, 2048, 10240]⟩
abbrev S4x2048x2048 : Shape := ⟨3, ![4, 2048, 2048]⟩
abbrev S4x2048x16x128 : Shape := ⟨4, ![4, 2048, 16, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2048x2048x1 : Shape := ⟨3, ![2048, 2048, 1]⟩
abbrev S16x2048x2048 : Shape := ⟨3, ![16, 2048, 2048]⟩
abbrev S4x16x2048x2048 : Shape := ⟨4, ![4, 16, 2048, 2048]⟩
abbrev S1x16x2048x2048 : Shape := ⟨4, ![1, 16, 2048, 2048]⟩
abbrev S4x16x2048 : Shape := ⟨3, ![4, 16, 2048]⟩
abbrev S4x16x2048x1 : Shape := ⟨4, ![4, 16, 2048, 1]⟩
abbrev S4x16x128x2048 : Shape := ⟨4, ![4, 16, 128, 2048]⟩
abbrev S8192x2048 : Shape := ⟨2, ![8192, 2048]⟩

abbrev nBuf : Space → Nat
  | .hbm => 114
  | .vmem => 0
  | .smem => 0
  | _ => 0

abbrev bufTy : (tb : Table) → Fin (tcTables nBuf tb) → BufTy
  | .hbm, ⟨0, _⟩ => ⟨S8192x10240, .bf16⟩
  | .hbm, ⟨1, _⟩ => ⟨S16x257, .f32⟩
  | .hbm, ⟨2, _⟩ => ⟨S8192x10240, .f32⟩
  | .hbm, ⟨3, _⟩ => ⟨S4x2048x10240, .f32⟩
  | .hbm, ⟨4, _⟩ => ⟨S4x2048x2048, .f32⟩
  | .hbm, ⟨5, _⟩ => ⟨S4x2048x2048, .f32⟩
  | .hbm, ⟨6, _⟩ => ⟨S4x2048x2048, .f32⟩
  | .hbm, ⟨7, _⟩ => ⟨S4x2048x16x128, .f32⟩
  | .hbm, ⟨8, _⟩ => ⟨S4x2048x16x128, .f32⟩
  | .hbm, ⟨9, _⟩ => ⟨S4x2048x16x128, .f32⟩
  | .hbm, ⟨10, _⟩ => ⟨S2048, .i32⟩
  | .hbm, ⟨11, _⟩ => ⟨S2048x1, .i32⟩
  | .hbm, ⟨12, _⟩ => ⟨S1x2048, .i32⟩
  | .hbm, ⟨13, _⟩ => ⟨S2048x2048, .i32⟩
  | .hbm, ⟨14, _⟩ => ⟨S2048x2048, .i32⟩
  | .hbm, ⟨15, _⟩ => ⟨S2048x2048, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S2048x2048, .i32⟩
  | .hbm, ⟨20, _⟩ => ⟨S2048x2048, .i32⟩
  | .hbm, ⟨21, _⟩ => ⟨S_, .i32⟩
  | .hbm, ⟨22, _⟩ => ⟨S2048x2048, .i32⟩
  | .hbm, ⟨23, _⟩ => ⟨S2048x2048, .i32⟩
  | .hbm, ⟨24, _⟩ => ⟨S_, .i32⟩
  | .hbm, ⟨25, _⟩ => ⟨S2048x2048, .i32⟩
  | .hbm, ⟨26, _⟩ => ⟨S2048x2048, .i32⟩
  | .hbm, ⟨27, _⟩ => ⟨S_, .i32⟩
  | .hbm, ⟨28, _⟩ => ⟨S2048x2048, .i32⟩
  | .hbm, ⟨29, _⟩ => ⟨S2048x2048, .i1⟩
  | .hbm, ⟨30, _⟩ => ⟨S_, .i32⟩
  | .hbm, ⟨31, _⟩ => ⟨S2048x2048, .i32⟩
  | .hbm, ⟨32, _⟩ => ⟨S2048x2048, .i32⟩
  | .hbm, ⟨33, _⟩ => ⟨S2048x2048, .i32⟩
  | .hbm, ⟨34, _⟩ => ⟨S2048x2048x1, .i32⟩
  | .hbm, ⟨35, _⟩ => ⟨S16x2048x2048, .f32⟩
  | .hbm, ⟨36, _⟩ => ⟨S2048x1, .i32⟩
  | .hbm, ⟨37, _⟩ => ⟨S_, .i32⟩
  | .hbm, ⟨38, _⟩ => ⟨S_, .i32⟩
  | .hbm, ⟨39, _⟩ => ⟨S2048x1, .i32⟩
  | .hbm, ⟨40, _⟩ => ⟨S2048x1, .i32⟩
  | .hbm, ⟨41, _⟩ => ⟨S2048x1, .i32⟩
  | .hbm, ⟨42, _⟩ => ⟨S_, .i32⟩
  | .hbm, ⟨43, _⟩ => ⟨S2048x1, .i32⟩
  | .hbm, ⟨44, _⟩ => ⟨S2048x1, .i1⟩
  | .hbm, ⟨45, _⟩ => ⟨S2048x1, .i32⟩
  | .hbm, ⟨46, _⟩ => ⟨S2048x1, .i32⟩
  | .hbm, ⟨47, _⟩ => ⟨S_, .i32⟩
  | .hbm, ⟨48, _⟩ => ⟨S2048x1, .i32⟩
  | .hbm, ⟨49, _⟩ => ⟨S2048x1, .i1⟩
  | .hbm, ⟨50, _⟩ => ⟨S2048x1, .i1⟩
  | .hbm, ⟨51, _⟩ => ⟨S_, .i32⟩
  | .hbm, ⟨52, _⟩ => ⟨S2048x1, .i32⟩
  | .hbm, ⟨53, _⟩ => ⟨S2048x1, .i32⟩
  | .hbm, ⟨54, _⟩ => ⟨S2048x1, .i32⟩
  | .hbm, ⟨55, _⟩ => ⟨S1x2048, .i32⟩
  | .hbm, ⟨56, _⟩ => ⟨S_, .i32⟩
  | .hbm, ⟨57, _⟩ => ⟨S_, .i32⟩
  | .hbm, ⟨58, _⟩ => ⟨S1x2048, .i32⟩
  | .hbm, ⟨59, _⟩ => ⟨S1x2048, .i32⟩
  | .hbm, ⟨60, _⟩ => ⟨S1x2048, .i32⟩
  | .hbm, ⟨61, _⟩ => ⟨S_, .i32⟩
  | .hbm, ⟨62, _⟩ => ⟨S1x2048, .i32⟩
  | .hbm, ⟨63, _⟩ => ⟨S1x2048, .i1⟩
  | .hbm, ⟨64, _⟩ => ⟨S1x2048, .i32⟩
  | .hbm, ⟨65, _⟩ => ⟨S1x2048, .i32⟩
  | .hbm, ⟨66, _⟩ => ⟨S_, .i32⟩
  | .hbm, ⟨67, _⟩ => ⟨S1x2048, .i32⟩
  | .hbm, ⟨68, _⟩ => ⟨S1x2048, .i1⟩
  | .hbm, ⟨69, _⟩ => ⟨S1x2048, .i1⟩
  | .hbm, ⟨70, _⟩ => ⟨S_, .i32⟩
  | .hbm, ⟨71, _⟩ => ⟨S1x2048, .i32⟩
  | .hbm, ⟨72, _⟩ => ⟨S1x2048, .i32⟩
  | .hbm, ⟨73, _⟩ => ⟨S1x2048, .i32⟩
  | .hbm, ⟨74, _⟩ => ⟨S2048x2048, .i32⟩
  | .hbm, ⟨75, _⟩ => ⟨S2048x2048, .i32⟩
  | .hbm, ⟨76, _⟩ => ⟨S2048x2048, .i32⟩
  | .hbm, ⟨77, _⟩ => ⟨S_, .i32⟩
  | .hbm, ⟨78, _⟩ => ⟨S2048x2048, .i32⟩
  | .hbm, ⟨79, _⟩ => ⟨S2048x2048, .i1⟩
  | .hbm, ⟨80, _⟩ => ⟨S_, .i32⟩
  | .hbm, ⟨81, _⟩ => ⟨S2048x2048, .i32⟩
  | .hbm, ⟨82, _⟩ => ⟨S2048x2048, .i1⟩
  | .hbm, ⟨83, _⟩ => ⟨S2048x2048, .i1⟩
  | .hbm, ⟨84, _⟩ => ⟨S4x16x2048x2048, .f32⟩
  | .hbm, ⟨85, _⟩ => ⟨S_, .f32⟩
  | .hbm, ⟨86, _⟩ => ⟨S4x16x2048x2048, .f32⟩
  | .hbm, ⟨87, _⟩ => ⟨S4x16x2048x2048, .f32⟩
  | .hbm, ⟨88, _⟩ => ⟨S1x16x2048x2048, .f32⟩
  | .hbm, ⟨89, _⟩ => ⟨S4x16x2048x2048, .f32⟩
  | .hbm, ⟨90, _⟩ => ⟨S4x16x2048x2048, .f32⟩
  | .hbm, ⟨91, _⟩ => ⟨S_, .f32⟩
  | .hbm, ⟨92, _⟩ => ⟨S_, .f32⟩
  | .hbm, ⟨93, _⟩ => ⟨S4x16x2048x2048, .i1⟩
  | .hbm, ⟨94, _⟩ => ⟨S4x16x2048x2048, .f32⟩
  | .hbm, ⟨95, _⟩ => ⟨S4x16x2048x2048, .f32⟩
  | .hbm, ⟨96, _⟩ => ⟨S_, .f32⟩
  | .hbm, ⟨97, _⟩ => ⟨S4x16x2048, .f32⟩
  | .hbm, ⟨98, _⟩ => ⟨S_, .f32⟩
  | .hbm, ⟨99, _⟩ => ⟨S4x16x2048, .f32⟩
  | .hbm, ⟨100, _⟩ => ⟨S4x16x2048, .f32⟩
  | .hbm, ⟨101, _⟩ => ⟨S4x16x2048x1, .f32⟩
  | .hbm, ⟨102, _⟩ => ⟨S4x16x2048x2048, .f32⟩
  | .hbm, ⟨103, _⟩ => ⟨S4x16x2048x2048, .f32⟩
  | .hbm, ⟨104, _⟩ => ⟨S4x16x2048x2048, .f32⟩
  | .hbm, ⟨105, _⟩ => ⟨S_, .f32⟩
  | .hbm, ⟨106, _⟩ => ⟨S4x16x2048, .f32⟩
  | .hbm, ⟨107, _⟩ => ⟨S4x16x2048x1, .f32⟩
  | .hbm, ⟨108, _⟩ => ⟨S4x16x2048x2048, .f32⟩
  | .hbm, ⟨109, _⟩ => ⟨S4x16x2048x2048, .f32⟩
  | .hbm, ⟨110, _⟩ => ⟨S4x16x128x2048, .f32⟩
  | .hbm, ⟨111, _⟩ => ⟨S4x2048x16x128, .f32⟩
  | .hbm, ⟨112, _⟩ => ⟨S8192x2048, .f32⟩
  | .hbm, ⟨113, _⟩ => ⟨S8192x2048, .bf16⟩
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v25 : Ref sig .tc := ⟨.hbm, 54, rfl⟩
abbrev main_v26 : Ref sig .tc := ⟨.hbm, 55, rfl⟩
abbrev main_c_5 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_c : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_0 : Ref sig .tc := ⟨.hbm, 70, rfl⟩
abbrev main_call2_v12 : Ref sig .tc := ⟨.hbm, 71, rfl⟩
abbrev main_call2_v13 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_c_6 : Ref sig .tc := ⟨.hbm, 77, rfl⟩
abbrev main_v31 : Ref sig .tc := ⟨.hbm, 78, rfl⟩
abbrev main_v32 : Ref sig .tc := ⟨.hbm, 79, rfl⟩
abbrev main_c_7 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_cst : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_8 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v42 : Ref sig .tc := ⟨.hbm, 95, rfl⟩
abbrev main_cst_9 : Ref sig .tc := ⟨.hbm, 96, rfl⟩
abbrev main_v43 : Ref sig .tc := ⟨.hbm, 97, rfl⟩
abbrev main_cst_10 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_cst_11 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩

abbrev nD : Nat := 1
abbrev τ : Topo := Topo.v7x

variable {F : FTy → Type} [FloatOps F]
-- ==== Diff.lean ====
abbrev S8192x10240 : Shape := ⟨2, ![8192, 10240]⟩
abbrev S128 : Shape := ⟨1, ![128]⟩
abbrev S256 : Shape := ⟨1, ![256]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x128 : Shape := ⟨2, ![1, 128]⟩
abbrev S4x128 : Shape := ⟨2, ![4, 128]⟩
abbrev S1x256 : Shape := ⟨2, ![1, 256]⟩
abbrev S8192x1024 : Shape := ⟨2, ![8192, 1024]⟩
abbrev S256x256 : Shape := ⟨2, ![256, 256]⟩
abbrev S2048x256 : Shape := ⟨2, ![2048, 256]⟩
abbrev S2x2048x128 : Shape := ⟨3, ![2, 2048, 128]⟩
abbrev S1x2048x128 : Shape := ⟨3, ![1, 2048, 128]⟩
abbrev S256x128 : Shape := ⟨2, ![256, 128]⟩
abbrev S1 : Shape := ⟨1, ![1]⟩
abbrev S1x1 : Shape := ⟨2, ![1, 1]⟩
abbrev S256x2048 : Shape := ⟨2, ![256, 2048]⟩
abbrev S256x1 : Shape := ⟨2, ![256, 1]⟩

abbrev nBuf : Space → Nat
  | .hbm => 51
  | .vmem => 13
  | .smem => 0
  | _ => 0

abbrev bufTy : (tb : Table) → Fin (tcTables nBuf tb) → BufTy
  | .hbm, ⟨0, _⟩ => ⟨S8192x10240, .bf16⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S256, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S2048, .f32⟩
  | .hbm, ⟨23, _⟩ => ⟨S2048x1, .f32⟩
  | .hbm, ⟨24, _⟩ => ⟨S1x64, .f32⟩
  | .hbm, ⟨25, _⟩ => ⟨S2048x64, .f32⟩
  | .hbm, ⟨26, _⟩ => ⟨S2048x64, .f32⟩
  | .hbm, ⟨27, _⟩ => ⟨S2048x64, .f32⟩
  | .hbm, ⟨28, _⟩ => ⟨S2048x128, .f32⟩
  | .hbm, ⟨29, _⟩ => ⟨S128, .i32⟩
  | .hbm, ⟨30, _⟩ => ⟨S_, .i32⟩
  | .hbm, ⟨31, _⟩ => ⟨S128, .i32⟩
  | .hbm, ⟨32, _⟩ => ⟨S128, .i1⟩
  | .hbm, ⟨33, _⟩ => ⟨S_, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S2048x128, .f32⟩
  | .hbm, ⟨40, _⟩ => ⟨S2048x128, .f32⟩
  | .hbm, ⟨41, _⟩ => ⟨S1x128, .f32⟩
  | .hbm, ⟨42, _⟩ => ⟨S2048x128, .f32⟩
  | .hbm, ⟨43, _⟩ => ⟨S2048x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S4x128, .f32⟩
  | .hbm, ⟨49, _⟩ => ⟨S1x256, .f32⟩
  | .hbm, ⟨50, _⟩ => ⟨S8192x1024, .bf16⟩
  | .local _ .vmem, ⟨0, _⟩ => ⟨S256x256, .bf16⟩
  | .local _ .vmem, ⟨1, _⟩ => ⟨S256x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x128, .f32⟩
  | .local _ .vmem, ⟨7, _⟩ => ⟨S2048x128, .f32⟩
  | .local _ .vmem, ⟨8, _⟩ => ⟨S4x128, .f32⟩
  | .local _ .vmem, ⟨9, _⟩ => ⟨S1x256, .f32⟩
  | .local _ .vmem, ⟨10, _⟩ => ⟨S256x256, .bf16⟩
  | .local _ .vmem, ⟨11, _⟩ => ⟨S256x256, .bf16⟩
  | .local _ .vmem, ⟨12, _⟩ => ⟨S2x2048x128, .bf16⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![4, 4, 8], ![false, false, false]⟩

def k0_mult1 (i : grid0.Coords) : BitVec 32 :=
  let arg2 : BitVec 32 := BitVec.ofNat 32 (i 2).val
  let c256_i32 : BitVec 32 := 256#32
  let v3 : BitVec 32 := Scalar.muli arg2 c256_i32
  v3
def k0_off1 (i : grid0.Coords) : Fin 2 → Nat :=
  let arg2 : BitVec 32 := BitVec.ofNat 32 (i 2).val
  let c256_i32 : BitVec 32 := 256#32
  let v3 : BitVec 32 := Scalar.muli arg2 c256_i32
  let v4 : BitVec 32 := v3
  let v5 : Index := Scalar.indexCast v4
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== DiffIdeal.lean ====
variable {F : FTy → Type} [FloatOps F] [Named F]
def κ : String → Option EReal := fun
  | "mask" => some ⊥
  | _ => none
-- ==== DiffRefIdeal.lean ====
abbrev S8192x10240 : Shape := ⟨2, ![8192, 10240]⟩
abbrev S128 : Shape := ⟨1, ![128]⟩
abbrev S256 : Shape := ⟨1, ![256]⟩
abbrev S4x2048x10240 : Shape := ⟨3, ![4, 2048, 10240]⟩
abbrev S4x2048x1024 : Shape := ⟨3, ![4, 2048, 1024]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S4x2048x4x2x128 : Shape := ⟨5, ![4, 2048, 4, 2, 128]⟩
abbrev S4x2048x4x2x64 : Shape := ⟨5, ![4, 2048, 4, 2, 64]⟩
abbrev S1x2048x1x1x128 : Shape := ⟨5, ![1, 2048, 1, 1, 128]⟩
abbrev S4x2048x4x256 : Shape := ⟨4, ![4, 2048, 4, 256]⟩
abbrev S1x2048 : Shape := ⟨2, ![1, 2048]⟩
abbrev S2048x2048 : Shape := ⟨2, ![2048, 2048]⟩
abbrev S4x4x2x2048x2048 : Shape := ⟨5, ![4, 4, 2, 2048, 2048]⟩
abbrev S4x4x2x2048 : Shape := ⟨4, ![4, 4, 2, 2048]⟩
abbrev S4x4x2x2048x1 : Shape := ⟨5, ![4, 4, 2, 2048, 1]⟩
abbrev S4x4x1x2048x2048 : Shape := ⟨5, ![4, 4, 1, 2048, 2048]⟩
abbrev S4x4x2048x2048 : Shape := ⟨4, ![4, 4, 2048, 2048]⟩
abbrev S4x4x256x2048 : Shape := ⟨4, ![4, 4, 256, 2048]⟩
abbrev S4x2048x4 : Shape := ⟨3, ![4, 2048, 4]⟩
abbrev S4x2048x4x1 : Shape := ⟨4, ![4, 2048, 4, 1]⟩
abbrev S1x1x1x256 : Shape := ⟨4, ![1, 1, 1, 256]⟩
abbrev S8192x1024 : Shape := ⟨2, ![8192, 1024]⟩

abbrev nBuf : Space → Nat
  | .hbm => 149
  | .vmem => 0
  | .smem => 0
  | _ => 0

abbrev hbmTy0_0 (i : Nat) : BufTy := match i % 128 with
  | 0 => ⟨S8192x10240, .bf16⟩
  | 1 => ⟨S128, .f32⟩
  | 2 => ⟨S128, .f32⟩
  | 3 => ⟨S128, .f32⟩
  | 4 => ⟨S128, .f32⟩
  | 5 => ⟨S256, .f32⟩
  | 6 => ⟨S8192x10240, .f32⟩
  | 7 => ⟨S4x2048x10240, .f32⟩
  | 8 => ⟨S4x2048x1024, .f32⟩
  | 9 => ⟨S4x2048x1024, .f32⟩
  | 10 => ⟨S4x2048x1024, .f32⟩
  | 11 => ⟨S64, .f32⟩
  | 12 => ⟨S_, .f32⟩
  | 13 => ⟨S64, .f32⟩
  | 14 => ⟨S64, .f32⟩
  | 15 => ⟨S_, .f32⟩
  | 16 => ⟨S64, .f32⟩
  | 17 => ⟨S64, .f32⟩
  | 18 => ⟨S_, .f32⟩
  | 19 => ⟨S64, .f32⟩
  | 20 => ⟨S64, .f32⟩
  | 21 => ⟨S_, .f32⟩
  | 22 => ⟨S64, .f32⟩
  | 23 => ⟨S64, .f32⟩
  | 24 => ⟨S_, .f32⟩
  | 25 => ⟨S64, .f32⟩
  | 26 => ⟨S64, .f32⟩
  | 27 => ⟨S2048, .f32⟩
  | 28 => ⟨S2048x1, .f32⟩
  | 29 => ⟨S1x64, .f32⟩
  | 30 => ⟨S2048x64, .f32⟩
  | 31 => ⟨S2048x64, .f32⟩
  | 32 => ⟨S2048x64, .f32⟩
  | 33 => ⟨S2048x128, .f32⟩
  | 34 => ⟨S2048x128, .f32⟩
  | 35 => ⟨S2048x128, .f32⟩
  | 36 => ⟨S4x2048x4x2x128, .f32⟩
  | 37 => ⟨S4x2048x4x2x64, .f32⟩
  | 38 => ⟨S4x2048x4x2x64, .f32⟩
  | 39 => ⟨S4x2048x4x2x64, .f32⟩
  | 40 => ⟨S4x2048x4x2x128, .f32⟩
  | 41 => ⟨S1x2048x1x1x128, .f32⟩
  | 42 => ⟨S4x2048x4x2x128, .f32⟩
  | 43 => ⟨S4x2048x4x2x128, .f32⟩
  | 44 => ⟨S1x2048x1x1x128, .f32⟩
  | 45 => ⟨S4x2048x4x2x128, .f32⟩
  | 46 => ⟨S4x2048x4x2x128, .f32⟩
  | 47 => ⟨S4x2048x4x2x128, .f32⟩
  | 48 => ⟨S4x2048x4x2x128, .f32⟩
  | 49 => ⟨S4x2048x4x2x64, .f32⟩
  | 50 => ⟨S4x2048x4x2x64, .f32⟩
  | 51 => ⟨S4x2048x4x2x64, .f32⟩
  | 52 => ⟨S4x2048x4x2x128, .f32⟩
  | 53 => ⟨S1x2048x1x1x128, .f32⟩
  | 54 => ⟨S4x2048x4x2x128, .f32⟩
  | 55 => ⟨S4x2048x4x2x128, .f32⟩
  | 56 => ⟨S1x2048x1x1x128, .f32⟩
  | 57 => ⟨S4x2048x4x2x128, .f32⟩
  | 58 => ⟨S4x2048x4x2x128, .f32⟩
  | 59 => ⟨S4x2048x4x2x128, .f32⟩
  | 60 => ⟨S4x2048x4x256, .f32⟩
  | 61 => ⟨S128, .f32⟩
  | 62 => ⟨S_, .f32⟩
  | 63 => ⟨S_, .f32⟩
  | 64 => ⟨S_, .f32⟩
  | 65 => ⟨S128, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S2048, .i32⟩
  | 73 => ⟨S_, .i32⟩
  | 74 => ⟨S_, .i32⟩
  | 75 => ⟨S2048, .i32⟩
  | 76 => ⟨S2048, .i32⟩
  | 77 => ⟨S2048, .i32⟩
  | 78 => ⟨S_, .i32⟩
  | 79 => ⟨S2048, .i32⟩
  | 80 => ⟨S2048, .i1⟩
  | 81 => ⟨S2048, .i32⟩
  | 82 => ⟨S2048, .i32⟩
  | 83 => ⟨S_, .i32⟩
  | 84 => ⟨S2048, .i32⟩
  | 85 => ⟨S2048, .i1⟩
  | 86 => ⟨S2048, .i1⟩
  | 87 => ⟨S_, .i32⟩
  | 88 => ⟨S2048, .i32⟩
  | 89 => ⟨S2048, .i32⟩
  | 90 => ⟨S2048, .i32⟩
  | 91 => ⟨S1x2048, .i32⟩
  | 92 => ⟨S2048x1, .i32⟩
  | 93 => ⟨S2048x2048, .i32⟩
  | 94 => ⟨S2048x2048, .i32⟩
  | 95 => ⟨S2048x2048, .i1⟩
  | 96 => ⟨S4x4x2x2048x2048, .f32⟩
  | 97 => ⟨S_, .f32⟩
  | 98 => ⟨S4x4x2x2048x2048, .f32⟩
  | 99 => ⟨S4x4x2x2048x2048, .f32⟩
  | 100 => ⟨S_, .f32⟩
  | 101 => ⟨S_, .f32⟩
  | 102 => ⟨S4x4x2x2048x2048, .i1⟩
  | 103 => ⟨S4x4x2x2048x2048, .f32⟩
  | 104 => ⟨S4x4x2x2048x2048, .f32⟩
  | 105 => ⟨S_, .f32⟩
  | 106 => ⟨S4x4x2x2048, .f32⟩
  | 107 => ⟨S_, .f32⟩
  | 108 => ⟨S4x4x2x2048, .f32⟩
  | 109 => ⟨S4x4x2x2048, .f32⟩
  | 110 => ⟨S4x4x2x2048x1, .f32⟩
  | 111 => ⟨S4x4x2x2048x2048, .f32⟩
  | 112 => ⟨S4x4x2x2048x2048, .f32⟩
  | 113 => ⟨S4x4x2x2048x2048, .f32⟩
  | 114 => ⟨S_, .f32⟩
  | 115 => ⟨S4x4x2x2048, .f32⟩
  | 116 => ⟨S4x4x2x2048x1, .f32⟩
  | 117 => ⟨S4x4x2x2048x2048, .f32⟩
  | 118 => ⟨S4x4x2x2048x2048, .f32⟩
  | 119 => ⟨S4x4x1x2048x2048, .f32⟩
  | 120 => ⟨S4x4x2048x2048, .f32⟩
  | 121 => ⟨S4x4x1x2048x2048, .f32⟩
  | 122 => ⟨S4x4x2048x2048, .f32⟩
  | 123 => ⟨S4x4x2048x2048, .f32⟩
  | 124 => ⟨S4x4x2048x2048, .f32⟩
  | 125 => ⟨S4x4x2048x2048, .f32⟩
  | 126 => ⟨S4x4x256x2048, .f32⟩
  | 127 => ⟨S4x2048x4x256, .f32⟩
  | _ => ⟨S8192x10240, .bf16⟩

abbrev hbmTy0_1 (i : Nat) : BufTy := match i % 128 with
  | 0 => ⟨S4x2048x4x256, .f32⟩
  | 1 => ⟨S_, .f32⟩
  | 2 => ⟨S4x2048x4, .f32⟩
  | 3 => ⟨S4x2048x4x1, .f32⟩
  | 4 => ⟨S_, .f32⟩
  | 5 => ⟨S4x2048x4x1, .f32⟩
  | 6 => ⟨S4x2048x4x1, .f32⟩
  | 7 => ⟨S_, .f32⟩
  | 8 => ⟨S4x2048x4x1, .f32⟩
  | 9 => ⟨S4x2048x4x1, .f32⟩
  | 10 => ⟨S4x2048x4x1, .f32⟩
  | 11 => ⟨S4x2048x4x256, .f32⟩
  | 12 => ⟨S4x2048x4x256, .f32⟩
  | 13 => ⟨S1x1x1x256, .f32⟩
  | 14 => ⟨S4x2048x4x256, .f32⟩
  | 15 => ⟨S4x2048x4x256, .f32⟩
  | 16 => ⟨S_, .f32⟩
  | 17 => ⟨S4x2048x4x256, .f32⟩
  | 18 => ⟨S4x2048x4x256, .f32⟩
  | 19 => ⟨S8192x1024, .f32⟩
  | 20 => ⟨S8192x1024, .bf16⟩
  | _ => ⟨S8192x10240, .bf16⟩

abbrev hbmTy (i : Nat) : BufTy := match i / 128 with
  | 0 => hbmTy0_0 i
  | 1 => hbmTy0_1 i
  | _ => ⟨S8192x10240, .bf16⟩

abbrev bufTy : (tb : Table) → Fin (tcTables nBuf tb) → BufTy
  | .hbm, ⟨i, _⟩ => hbmTy i
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_4 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_5 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_6 : Ref sig .tc := ⟨.hbm, 70, rfl⟩
abbrev main_v57 : Ref sig .tc := ⟨.hbm, 71, rfl⟩
abbrev main_v58 : Ref sig .tc := ⟨.hbm, 72, rfl⟩
abbrev main_c : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_v5 : Ref sig .tc := ⟨.hbm, 79, rfl⟩
abbrev main_call0_v6 : Ref sig .tc := ⟨.hbm, 80, rfl⟩
abbrev main_call0_v7 : Ref sig .tc := ⟨.hbm, 81, rfl⟩
abbrev main_call0_v8 : Ref sig .tc := ⟨.hbm, 82, rfl⟩
abbrev main_call0_c : Ref sig .tc := ⟨.hbm, 83, rfl⟩
abbrev main_call0_v9 : Ref sig .tc := ⟨.hbm, 84, rfl⟩
abbrev main_call0_v10 : Ref sig .tc := ⟨.hbm, 85, rfl⟩
abbrev main_call0_v11 : Ref sig .tc := ⟨.hbm, 86, rfl⟩
abbrev main_call0_c_0 : Ref sig .tc := ⟨.hbm, 87, rfl⟩
abbrev main_call0_v12 : Ref sig .tc := ⟨.hbm, 88, rfl⟩
abbrev main_call0_v13 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_7 : Ref sig .tc := ⟨.hbm, 97, rfl⟩
abbrev main_v66 : Ref sig .tc := ⟨.hbm, 98, rfl⟩
abbrev main_v67 : Ref sig .tc := ⟨.hbm, 99, rfl⟩
abbrev main_cst_8 : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_v68 : Ref sig .tc := ⟨.hbm, 104, rfl⟩
abbrev main_cst_9 : Ref sig .tc := ⟨.hbm, 105, rfl⟩
abbrev main_v69 : Ref sig .tc := ⟨.hbm, 106, rfl⟩
abbrev main_cst_10 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_11 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_12 : Ref sig .tc := ⟨.hbm, 129, rfl⟩
abbrev main_v90 : Ref sig .tc := ⟨.hbm, 130, rfl⟩
abbrev main_v91 : Ref sig .tc := ⟨.hbm, 131, rfl⟩
abbrev main_cst_13 : Ref sig .tc := ⟨.hbm, 132, rfl⟩
abbrev main_v92 : Ref sig .tc := ⟨.hbm, 133, rfl⟩
abbrev main_v93 : Ref sig .tc := ⟨.hbm, 134, rfl⟩
abbrev main_cst_14 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_15 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩

abbrev nD : Nat := 1
abbrev τ : Topo := Topo.v7x

variable {F : FTy → Type} [FloatOps F]
-- ==== Cross.lean ====
abbrev S8192x10240 : Shape := ⟨2, ![8192, 10240]⟩
abbrev S1024x2048 : Shape := ⟨2, ![1024, 2048]⟩
abbrev S8192x1024 : Shape := ⟨2, ![8192, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S8192x10240, .bf16⟩
  | .hbm, ⟨1, _⟩ => ⟨S1024x2048, .bf16⟩
  | .hbm, ⟨2, _⟩ => ⟨S8192x1024, .bf16⟩
  | .local _ .vmem, ⟨0, _⟩ => ⟨S512x256, .bf16⟩
  | .local _ .vmem, ⟨1, _⟩ => ⟨S512x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S512x256, .bf16⟩
  | .local _ .vmem, ⟨7, _⟩ => ⟨S512x256, .bf16⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c36_i32 : BitVec 32 := 36#32
  let v2 : BitVec 32 := Scalar.addi c36_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== CrossRefIdeal.lean ====
abbrev S8192x10240 : Shape := ⟨2, ![8192, 10240]⟩
abbrev S1024x2048 : Shape := ⟨2, ![1024, 2048]⟩
abbrev S4x2048x10240 : Shape := ⟨3, ![4, 2048, 10240]⟩
abbrev S4x2048x1024 : Shape := ⟨3, ![4, 2048, 1024]⟩
abbrev S4x256x2048 : Shape := ⟨3, ![4, 256, 2048]⟩
abbrev S4x256x1024 : Shape := ⟨3, ![4, 256, 1024]⟩
abbrev S4x2048x4x256 : Shape := ⟨4, ![4, 2048, 4, 256]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩
abbrev S8192x1024 : Shape := ⟨2, ![8192, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8192x10240, .bf16⟩
  | .hbm, ⟨1, _⟩ => ⟨S1024x2048, .bf16⟩
  | .hbm, ⟨2, _⟩ => ⟨S8192x10240, .f32⟩
  | .hbm, ⟨3, _⟩ => ⟨S4x2048x10240, .f32⟩
  | .hbm, ⟨4, _⟩ => ⟨S4x2048x1024, .f32⟩
  | .hbm, ⟨5, _⟩ => ⟨S1024x2048, .f32⟩
  | .hbm, ⟨6, _⟩ => ⟨S4x256x2048, .f32⟩
  | .hbm, ⟨7, _⟩ => ⟨S4x256x1024, .f32⟩
  | .hbm, ⟨8, _⟩ => ⟨S4x256x1024, .f32⟩
  | .hbm, ⟨9, _⟩ => ⟨S4x2048x4x256, .f32⟩
  | .hbm, ⟨10, _⟩ => ⟨S4x256x4x256, .f32⟩
  | .hbm, ⟨11, _⟩ => ⟨S4x256x4x256, .f32⟩
  | .hbm, ⟨12, _⟩ => ⟨S4x4x2048x256, .f32⟩
  | .hbm, ⟨13, _⟩ => ⟨S_, .f32⟩
  | .hbm, ⟨14, _⟩ => ⟨S4x4x2048x256, .f32⟩
  | .hbm, ⟨15, _⟩ => ⟨S4x4x2048x256, .f32⟩
  | .hbm, ⟨16, _⟩ => ⟨S_, .f32⟩
  | .hbm, ⟨17, _⟩ => ⟨S4x4x2048, .f32⟩
  | .hbm, ⟨18, _⟩ => ⟨S_, .f32⟩
  | .hbm, ⟨19, _⟩ => ⟨S4x4x2048, .f32⟩
  | .hbm, ⟨20, _⟩ => ⟨S4x4x2048, .f32⟩
  | .hbm, ⟨21, _⟩ => ⟨S4x4x2048x1, .f32⟩
  | .hbm, ⟨22, _⟩ => ⟨S4x4x2048x256, .f32⟩
  | .hbm, ⟨23, _⟩ => ⟨S4x4x2048x256, .f32⟩
  | .hbm, ⟨24, _⟩ => ⟨S4x4x2048x256, .f32⟩
  | .hbm, ⟨25, _⟩ => ⟨S_, .f32⟩
  | .hbm, ⟨26, _⟩ => ⟨S4x4x2048, .f32⟩
  | .hbm, ⟨27, _⟩ => ⟨S4x4x2048x1, .f32⟩
  | .hbm, ⟨28, _⟩ => ⟨S4x4x2048x256, .f32⟩
  | .hbm, ⟨29, _⟩ => ⟨S4x4x2048x256, .f32⟩
  | .hbm, ⟨30, _⟩ => ⟨S4x4x256x2048, .f32⟩
  | .hbm, ⟨31, _⟩ => ⟨S4x2048x4x256, .f32⟩
  | .hbm, ⟨32, _⟩ => ⟨S8192x1024, .f32⟩
  | .hbm, ⟨33, _⟩ => ⟨S8192x1024, .bf16⟩
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Merge.lean ====
abbrev S8192x4096 : Shape := ⟨2, ![8192, 4096]⟩
abbrev S8192x2048 : Shape := ⟨2, ![8192, 2048]⟩
abbrev S8192x1024 : Shape := ⟨2, ![8192, 1024]⟩
abbrev S4096x12288 : Shape := ⟨2, ![4096, 12288]⟩
abbrev S12288 : Shape := ⟨1, ![12288]⟩
abbrev S2048x4096 : Shape := ⟨2, ![2048, 4096]⟩
abbrev S1024x4096 : Shape := ⟨2, ![1024, 4096]⟩
abbrev S1x12288 : Shape := ⟨2, ![1, 12288]⟩
abbrev S256x4096 : Shape := ⟨2, ![256, 4096]⟩
abbrev S256x2048 : Shape := ⟨2, ![256, 2048]⟩
abbrev S256x1024 : Shape := ⟨2, ![256, 1024]⟩
abbrev S4096x256 : Shape := ⟨2, ![4096, 256]⟩
abbrev S1x256 : Shape := ⟨2, ![1, 256]⟩
abbrev S2048x256 : Shape := ⟨2, ![2048, 256]⟩
abbrev S1024x256 : Shape := ⟨2, ![1024, 256]⟩
abbrev S256x256 : Shape := ⟨2, ![256, 256]⟩

abbrev nBuf : Space → Nat
  | .hbm => 11
  | .vmem => 28
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S8192x1024, .bf16⟩
  | .hbm, ⟨3, _⟩ => ⟨S8192x1024, .bf16⟩
  | .hbm, ⟨4, _⟩ => ⟨S4096x12288, .f32⟩
  | .hbm, ⟨5, _⟩ => ⟨S12288, .f32⟩
  | .hbm, ⟨6, _⟩ => ⟨S2048x4096, .f32⟩
  | .hbm, ⟨7, _⟩ => ⟨S1024x4096, .f32⟩
  | .hbm, ⟨8, _⟩ => ⟨S1024x4096, .f32⟩
  | .hbm, ⟨9, _⟩ => ⟨S1x12288, .f32⟩
  | .hbm, ⟨10, _⟩ => ⟨S8192x4096, .bf16⟩
  | .local _ .vmem, ⟨0, _⟩ => ⟨S256x4096, .bf16⟩
  | .local _ .vmem, ⟨1, _⟩ => ⟨S256x4096, .bf16⟩
  | .local _ .vmem, ⟨2, _⟩ => ⟨S256x2048, .bf16⟩
  | .local _ .vmem, ⟨3, _⟩ => ⟨S256x2048, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S4096x256, .f32⟩
  | .local _ .vmem, ⟨9, _⟩ => ⟨S4096x256, .f32⟩
  | .local _ .vmem, ⟨10, _⟩ => ⟨S4096x256, .f32⟩
  | .local _ .vmem, ⟨11, _⟩ => ⟨S4096x256, .f32⟩
  | .local _ .vmem, ⟨12, _⟩ => ⟨S4096x256, .f32⟩
  | .local _ .vmem, ⟨13, _⟩ => ⟨S4096x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S2048x256, .f32⟩
  | .local _ .vmem, ⟨21, _⟩ => ⟨S2048x256, .f32⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | .local _ .vmem, ⟨26, _⟩ => ⟨S256x256, .bf16⟩
  | .local _ .vmem, ⟨27, _⟩ => ⟨S256x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MergeRefIdeal.lean ====
abbrev S8192x4096 : Shape := ⟨2, ![8192, 4096]⟩
abbrev S8192x2048 : Shape := ⟨2, ![8192, 2048]⟩
abbrev S8192x1024 : Shape := ⟨2, ![8192, 1024]⟩
abbrev S4096x12288 : Shape := ⟨2, ![4096, 12288]⟩
abbrev S12288 : Shape := ⟨1, ![12288]⟩
abbrev S2048x4096 : Shape := ⟨2, ![2048, 4096]⟩
abbrev S1024x4096 : Shape := ⟨2, ![1024, 4096]⟩
abbrev S8192x12288 : Shape := ⟨2, ![8192, 12288]⟩
abbrev S1x12288 : Shape := ⟨2, ![1, 12288]⟩
abbrev S_ : Shape := ⟨0, ![]⟩
abbrev S8192x3x4096 : Shape := ⟨3, ![8192, 3, 4096]⟩
abbrev S8192x1x4096 : Shape := ⟨3, ![8192, 1, 4096]⟩

abbrev nBuf : Space → Nat
  | .hbm => 41
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S8192x1024, .bf16⟩
  | .hbm, ⟨3, _⟩ => ⟨S8192x1024, .bf16⟩
  | .hbm, ⟨4, _⟩ => ⟨S4096x12288, .f32⟩
  | .hbm, ⟨5, _⟩ => ⟨S12288, .f32⟩
  | .hbm, ⟨6, _⟩ => ⟨S2048x4096, .f32⟩
  | .hbm, ⟨7, _⟩ => ⟨S1024x4096, .f32⟩
  | .hbm, ⟨8, _⟩ => ⟨S1024x4096, .f32⟩
  | .hbm, ⟨9, _⟩ => ⟨S8192x4096, .f32⟩
  | .hbm, ⟨10, _⟩ => ⟨S8192x2048, .f32⟩
  | .hbm, ⟨11, _⟩ => ⟨S8192x1024, .f32⟩
  | .hbm, ⟨12, _⟩ => ⟨S8192x1024, .f32⟩
  | .hbm, ⟨13, _⟩ => ⟨S8192x12288, .f32⟩
  | .hbm, ⟨14, _⟩ => ⟨S1x12288, .f32⟩
  | .hbm, ⟨15, _⟩ => ⟨S8192x12288, .f32⟩
  | .hbm, ⟨16, _⟩ => ⟨S8192x12288, .f32⟩
  | .hbm, ⟨17, _⟩ => ⟨S8192x12288, .f32⟩
  | .hbm, ⟨18, _⟩ => ⟨S8192x12288, .f32⟩
  | .hbm, ⟨19, _⟩ => ⟨S_, .f32⟩
  | .hbm, ⟨20, _⟩ => ⟨S8192x12288, .f32⟩
  | .hbm, ⟨21, _⟩ => ⟨S8192x12288, .f32⟩
  | .hbm, ⟨22, _⟩ => ⟨S_, .f32⟩
  | .hbm, ⟨23, _⟩ => ⟨S8192x12288, .f32⟩
  | .hbm, ⟨24, _⟩ => ⟨S8192x12288, .f32⟩
  | .hbm, ⟨25, _⟩ => ⟨S8192x3x4096, .f32⟩
  | .hbm, ⟨26, _⟩ => ⟨S8192x1x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x1x4096, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S8192x1x4096, .f32⟩
  | .hbm, ⟨36, _⟩ => ⟨S8192x4096, .f32⟩
  | .hbm, ⟨37, _⟩ => ⟨S8192x4096, .f32⟩
  | .hbm, ⟨38, _⟩ => ⟨S8192x4096, .f32⟩
  | .hbm, ⟨39, _⟩ => ⟨S8192x4096, .f32⟩
  | .hbm, ⟨40, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== InProj.lean ====
abbrev S8192x4096 : Shape := ⟨2, ![8192, 4096]⟩
abbrev S4096x10240 : Shape := ⟨2, ![4096, 10240]⟩
abbrev S8192x10240 : Shape := ⟨2, ![8192, 10240]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x10240, .f32⟩
  | .hbm, ⟨2, _⟩ => ⟨S8192x10240, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .bf16⟩
  | .local _ .vmem, ⟨5, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![20, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8192x4096 : Shape := ⟨2, ![8192, 4096]⟩
abbrev S4096x10240 : Shape := ⟨2, ![4096, 10240]⟩
abbrev S8192x10240 : Shape := ⟨2, ![8192, 10240]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x10240, .f32⟩
  | .hbm, ⟨2, _⟩ => ⟨S8192x4096, .f32⟩
  | .hbm, ⟨3, _⟩ => ⟨S8192x10240, .f32⟩
  | .hbm, ⟨4, _⟩ => ⟨S8192x10240, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MemKv.lean ====
abbrev S1024x4096 : Shape := ⟨2, ![1024, 4096]⟩
abbrev S4096x2048 : Shape := ⟨2, ![4096, 2048]⟩
abbrev S1024x2048 : Shape := ⟨2, ![1024, 2048]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S1024x2048, .bf16⟩
  | .local _ .vmem, ⟨0, _⟩ => ⟨S512x4096, .f32⟩
  | .local _ .vmem, ⟨1, _⟩ => ⟨S512x4096, .f32⟩
  | .local _ .vmem, ⟨2, _⟩ => ⟨S4096x512, .f32⟩
  | .local _ .vmem, ⟨3, _⟩ => ⟨S4096x512, .f32⟩
  | .local _ .vmem, ⟨4, _⟩ => ⟨S512x512, .bf16⟩
  | .local _ .vmem, ⟨5, _⟩ => ⟨S512x512, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemKvRefIdeal.lean ====
abbrev S1024x4096 : Shape := ⟨2, ![1024, 4096]⟩
abbrev S4096x2048 : Shape := ⟨2, ![4096, 2048]⟩
abbrev S1024x2048 : Shape := ⟨2, ![1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S1024x2048, .f32⟩
  | .hbm, ⟨3, _⟩ => ⟨S1024x2048, .bf16⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutProj.lean ====
abbrev S8192x4096 : Shape := ⟨2, ![8192, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjRefIdeal.lean ====
abbrev S8192x4096 : Shape := ⟨2, ![8192, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Cast.lean ====
abbrev S8192x4096 : Shape := ⟨2, ![8192, 4096]⟩
abbrev S512x4096 : Shape := ⟨2, ![512, 4096]⟩

abbrev nBuf : Space → Nat
  | .hbm => 2
  | .vmem => 4
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastRefIdeal.lean ====
abbrev S8192x4096 : Shape := ⟨2, ![8192, 4096]⟩

abbrev nBuf : Space → Nat
  | .hbm => 2
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Sums.lean ====
/- Sums of extended reals, taken term by term. -/
module

public import Idealize.ShloMosaic.Lib.Pointwise

@[expose] public section

noncomputable section

namespace Cert.Sums

/-- Two sums of extended reals with equal terms are equal. -/
theorem sum_congr_ereal {n : ℕ} {f g : Fin n → EReal} (h : ∀ k, f k = g k) : ∑ k, f k = ∑ k, g k :=
  Finset.sum_congr rfl fun k _ => h k

end Cert.Sums

end
-- ==== Proof.Softmax.lean ====
/- Softmax of a row of extended reals, and the attention of one query over a row of keys. -/
module

public import Idealize.ShloMosaic.Lib.Pointwise
public import proofs.«01_k».proof.Proof.Sums

@[expose] public section

noncomputable section

namespace Cert.Softmax

open Idealize.ShloMosaic

/-- The word a row's maximum starts from denotes minus infinity. -/
theorem negInf : Ideal.ofBits FTy.f32 4286578688#32 = ⊥ := by
  simp [Ideal.ofBits, Ideal.ieee]

/-- A maximum along one axis of an array, taken from the word `w`: the fold of `max` over that axis's coordinates. -/
theorem reduce_max {s t u : Shape} {a : Fin s.rank} (x : FVec Ideal s .f32) (w : BitVec 32) (h' : s.ReducesTo [a] t)
    (h : s.Reduces [a] t) (hu : 0 < u.numel) (j : t.Idx) :
    (Host.reduce FloatOps.maximumf x (constant (F := Ideal) u .f32 w) h' hu : FVec Ideal t .f32) j
      = Finset.univ.fold max (Ideal.ofBits .f32 w) (fun k : Fin (s.size a) => x (h.lift j k)) :=
  Host.reduce_eq_fold_single FloatOps.maximumf x (constant (F := Ideal) u .f32 w) h' h hu j

/-- The largest of a row's entries, minus infinity where there is none. -/
def top {n : ℕ} (s : Fin n → EReal) : EReal := Finset.univ.fold max ⊥ s

/-- Entry `k` of a row, less the row's largest, under the exponential. -/
def expo {n : ℕ} (s : Fin n → EReal) (k : Fin n) : EReal := Ideal.exp (s k - top s)

/-- Softmax: entry `k`'s exponential over the sum of the row's. -/
def weight {n : ℕ} (s : Fin n → EReal) (k : Fin n) : EReal := Ideal.div (expo s k) (∑ j, expo s j)

/-- The values of a row weighted by the softmax of its logits. -/
def attend {n : ℕ} (s v : Fin n → EReal) : EReal := ∑ k, weight s k * v k

/-- `attend` depends on its rows entry by entry. -/
theorem attend_congr {n : ℕ} {s s' v v' : Fin n → EReal} (hs : ∀ k, s k = s' k) (hv : ∀ k, v k = v' k) :
    attend s v = attend s' v' := by
  rw [funext hs, funext hv]

end Cert.Softmax

end
-- ==== Proof.Rows.lean ====
/- Rows of scores that are minus infinity outside a window: the softmax of the row is that of the window, and dividing the
weighted sum by the sum of the exponentials is weighting by the softmax. -/
module

public import proofs.«01_k».proof.Proof.Softmax

@[expose] public section

noncomputable section

namespace Cert.Rows

open Idealize.ShloMosaic
open Cert.Softmax (top expo weight attend)

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A sum of reals is a real. -/
theorem IsReal.sum {n : ℕ} {f : Fin n → EReal} (h : ∀ k, IsReal (f k)) : IsReal (∑ k, f k) := by
  choose g hg using h
  refine ⟨∑ k, g k, ?_⟩
  rw [funext hg]
  exact (map_sum (⟨⟨Real.toEReal, EReal.coe_zero⟩, EReal.coe_add⟩ : ℝ →+ EReal) g Finset.univ).symm

/-- A value below infinity in absolute value is a real. -/
theorem IsReal.of_abs {x : EReal} (h : max x (-x) < ⊤) : IsReal x := by
  induction x using EReal.rec with
  | bot => simp at h
  | top => simp at h
  | coe r => exact ⟨r, rfl⟩

/-- Minus infinity less anything has exponential zero. -/
theorem exp_bot_sub (x : EReal) : Ideal.exp (⊥ - x) = 0 := by
  rw [sub_eq_add_neg, EReal.bot_add]
  rfl

/-- The largest entry as a supremum. -/
theorem top_eq_sup {n : ℕ} (s : Fin n → EReal) : top s = Finset.univ.sup s := rfl

/-- The values of a row weighted by the exponentials, over the sum of the exponentials. -/
def blend {n : ℕ} (s v : Fin n → EReal) : EReal := Ideal.div (∑ k, expo s k * v k) (∑ k, expo s k)

/-- A row that is minus infinity outside a window has the window's largest entry. -/
theorem top_window {n N : ℕ} (e : Fin n → Fin N) (s : Fin N → EReal) (h : ∀ k, k ∉ Set.range e → s k = ⊥) :
    top s = top (fun j => s (e j)) := by
  rw [top_eq_sup, top_eq_sup]
  refine le_antisymm (Finset.sup_le fun k _ => ?_) (Finset.sup_le fun j _ => Finset.le_sup (f := s) (Finset.mem_univ (e j)))
  by_cases hk : k ∈ Set.range e
  · obtain ⟨j, rfl⟩ := hk
    exact Finset.le_sup (f := fun j => s (e j)) (Finset.mem_univ j)
  · rw [h k hk]
    exact bot_le

/-- `blend` of the window is `blend` of the row. -/
theorem blend_window {n N : ℕ} (e : Fin n → Fin N) (he : Function.Injective e) (s v : Fin N → EReal)
    (h : ∀ k, k ∉ Set.range e → s k = ⊥) : blend (fun j => s (e j)) (fun j => v (e j)) = blend s v := by
  have hx : ∀ j, expo (fun j => s (e j)) j = expo s (e j) := fun j => by
    unfold expo
    rw [top_window e s h]
  have h0 : ∀ k, k ∉ Set.range e → expo s k = 0 := fun k hk => by
    unfold expo
    rw [h k hk, exp_bot_sub]
  unfold blend
  rw [Fintype.sum_of_injective e he (fun j => expo (fun j => s (e j)) j * v (e j)) (fun k => expo s k * v k)
      (fun k hk => by rw [h0 k hk, zero_mul]) (fun j => by rw [hx]),
    Fintype.sum_of_injective e he (fun j => expo (fun j => s (e j)) j) (fun k => expo s k) h0 hx]

/-- A nonnegative finite factor goes into a sum. -/
theorem sum_mul {n : ℕ} (f : Fin n → EReal) {c : EReal} (h0 : 0 ≤ c) (h1 : c ≠ ⊤) : (∑ k, f k) * c = ∑ k, f k * c :=
  map_sum (⟨⟨(· * c), zero_mul c⟩, fun x y => EReal.right_distrib_of_nonneg_of_ne_top h0 h1 x y⟩ : EReal →+ EReal) f Finset.univ

/-- Where every score is a real or minus infinity, and one is a real, the sum of the exponentials is a positive real. -/
theorem total {n : ℕ} {s : Fin n → EReal} (h : ∀ k, IsReal (s k) ∨ s k = ⊥) (h' : ∃ k, IsReal (s k)) :
    ∃ r : ℝ, 0 < r ∧ ∑ k, expo s k = (r : EReal) := by
  obtain ⟨k0, hk0⟩ := h'
  obtain ⟨k1, -, h1⟩ := Finset.exists_mem_eq_sup Finset.univ ⟨k0, Finset.mem_univ k0⟩ s
  have ht : top s = s k1 := h1
  have hr : IsReal (s k1) := by
    refine (h k1).resolve_right fun hb => ?_
    obtain ⟨r, hr⟩ := hk0
    have hle : s k0 ≤ top s := Finset.le_sup (f := s) (Finset.mem_univ k0)
    rw [ht, hb, hr] at hle
    exact absurd hle (by simp)
  obtain ⟨M, hM⟩ := hr
  have he : ∀ k, ∃ r : ℝ, 0 ≤ r ∧ expo s k = (r : EReal) := fun k => by
    rcases h k with ⟨a, ha⟩ | hb
    · refine ⟨Real.exp (a - M), (Real.exp_pos _).le, ?_⟩
      unfold expo
      rw [ht, hM, ha, ← EReal.coe_sub]
      rfl
    · refine ⟨0, le_rfl, ?_⟩
      unfold expo
      rw [hb, exp_bot_sub]
      rfl
  choose g hg0 hg using he
  have hg1 : g k1 = 1 := by
    have : expo s k1 = ((1 : ℝ) : EReal) := by
      unfold expo
      rw [ht, hM, ← EReal.coe_sub, sub_self]
      show ((Real.exp 0 : ℝ) : EReal) = _
      rw [Real.exp_zero]
    rw [hg] at this
    exact_mod_cast this
  refine ⟨∑ k, g k, ?_, ?_⟩
  · refine lt_of_lt_of_le one_pos (hg1 ▸ ?_)
    exact Finset.single_le_sum (f := g) (fun k _ => hg0 k) (Finset.mem_univ k1)
  · rw [funext hg]
    exact (map_sum (⟨⟨Real.toEReal, EReal.coe_zero⟩, EReal.coe_add⟩ : ℝ →+ EReal) g Finset.univ).symm

/-- There, dividing at the end is weighting by the softmax, whatever the values. -/
theorem blend_eq_attend {n : ℕ} {s : Fin n → EReal} (h : ∀ k, IsReal (s k) ∨ s k = ⊥) (h' : ∃ k, IsReal (s k)) (v : Fin n → EReal) :
    blend s v = attend s v := by
  obtain ⟨r, hr, hs⟩ := total h h'
  have hne : (r : EReal) ≠ 0 := by exact_mod_cast hr.ne'
  unfold blend attend weight
  rw [hs]
  unfold Ideal.div
  simp only [if_neg hne]
  rw [← EReal.coe_inv, sum_mul _ (by exact_mod_cast (inv_pos.mpr hr).le) (EReal.coe_ne_top _)]
  refine Cert.Sums.sum_congr_ereal fun k => ?_
  rw [mul_assoc (G := EReal), mul_comm (G := EReal) (v k), ← mul_assoc (G := EReal)]

end Cert.Rows

end
-- ==== Proof.BandSpec.lean ====
/- The banded attention: what every element of its result is. -/
module

public import Idealize.ShloMosaic.Lib.Pointwise
public import proofs.«01_k».proof.Proof.Rows

@[expose] public section

noncomputable section

namespace Cert.Banded

open Idealize.ShloMosaic

/-- The row of position `k` in the batch that row `r` belongs to. -/
def brow (r : Fin 8192) (k : Fin 2048) : Fin 8192 := ⟨r.val / 2048 * 2048 + k.val, by omega⟩

/-- The position of row `r` in its batch. -/
def pos (r : Fin 8192) : Fin 2048 := ⟨r.val % 2048, by omega⟩

/-- The head that result column `j` lies in. -/
def head (j : Fin 2048) : Fin 16 := ⟨j.val / 128, by omega⟩

/-- Query column `d` of that head. -/
def qcol (j : Fin 2048) (d : Fin 128) : Fin 10240 := ⟨j.val / 128 * 128 + d.val, by omega⟩

/-- Key column `d` of that head. -/
def kcol (j : Fin 2048) (d : Fin 128) : Fin 10240 := ⟨2048 + (j.val / 128 * 128 + d.val), by omega⟩

/-- The value column that result column `j` is made of. -/
def vcol (j : Fin 2048) : Fin 10240 := ⟨4096 + j.val, by omega⟩

/-- A key at position `k` is in the band of a query at position `p`: its chunk of sixty-four is the query's or one of the
eight before. -/
def InBand (p k : ℕ) : Prop := k / 64 ≤ p / 64 ∧ p / 64 ≤ k / 64 + 8

instance (p k : ℕ) : Decidable (InBand p k) := inferInstanceAs (Decidable (_ ∧ _))

/-- The entry of the bias table for a query at `p` and a key at `k`: their distance, cut off at 128 either way, from 128 on. -/
def rel (p k : ℕ) : Fin 257 := ⟨min (p + 128 - k) 256, by omega⟩

/-- The bias of a query at `p` for a key at `k`, in a head whose biases are `w`: minus infinity outside the band. -/
def bias (w : Fin 257 → EReal) (p k : ℕ) : EReal := if InBand p k then w (rel p k) else ⊥

variable (x : (⟨2, ![8192, 10240]⟩ : Shape).Idx → EReal) (w : (⟨2, ![16, 257]⟩ : Shape).Idx → EReal)

/-- The score of row `r` against position `k`: the product of query and key, scaled, and the bias. -/
def score (r : Fin 8192) (j : Fin 2048) (k : Fin 2048) : EReal :=
  (∑ d : Fin 128, x (ix2 r (qcol j d)) * x (ix2 (brow r k) (kcol j d))) * Ideal.ofBits .f32 0x3DB504F3#32
    + bias (fun e => w (ix2 (head j) e)) (pos r).val k.val

/-- The bias depends on the two positions' difference, as long as whole chunks lie before. -/
theorem bias_shift (u : Fin 257 → EReal) (p k n : ℕ) : bias u (p + n * 64) (k + n * 64) = bias u p k := by
  have h1 : InBand (p + n * 64) (k + n * 64) ↔ InBand p k := by
    unfold InBand
    omega
  have h2 : rel (p + n * 64) (k + n * 64) = rel p k := by
    refine Fin.ext ?_
    simp only [rel]
    omega
  unfold bias
  rw [h2]
  exact if_congr h1 rfl rfl

/-- A score outside the band is minus infinity. -/
theorem score_outside (r : Fin 8192) (j k : Fin 2048) (h : ¬ InBand (pos r).val k.val) : score x w r j k = ⊥ := by
  unfold score bias
  rw [if_neg h, EReal.add_bot]

/-- The banded attention, the division by the sum of the weights left to the end. -/
def blended : (⟨2, ![8192, 2048]⟩ : Shape).Idx → EReal := fun i =>
  Rows.blend (score x w (i 0) (i 1)) (fun k => x (ix2 (brow (i 0) k) (vcol (i 1))))

/-- The banded attention. -/
def banded : (⟨2, ![8192, 2048]⟩ : Shape).Idx → EReal := fun i =>
  Softmax.attend (score x w (i 0) (i 1)) (fun k => x (ix2 (brow (i 0) k) (vcol (i 1))))

/-- Where queries, keys and biases are reals, a score in the band is a real. -/
theorem score_inside (hx : ∀ (r : Fin 8192) (e : Fin 10240), e.val < 4096 → Rows.IsReal (x (ix2 r e))) (hw : ∀ h e, Rows.IsReal (w (ix2 h e)))
    (r : Fin 8192) (j k : Fin 2048) (h : InBand (pos r).val k.val) : Rows.IsReal (score x w r j k) := by
  unfold score bias
  rw [if_pos h]
  refine Rows.IsReal.add (Rows.IsReal.mul (Rows.IsReal.sum fun d => Rows.IsReal.mul (hx _ _ ?_) (hx _ _ ?_)) ?_) (hw _ _)
  · simp only [qcol]; omega
  · simp only [kcol]; omega
  · refine ⟨11863283 / 134217728, ?_⟩
    simp [Ideal.ofBits, Ideal.ieee]
    norm_num
    rw [← EReal.coe_mul]
    norm_num

/-- There, leaving the division to the end makes no difference, whatever the values are: a query's own key is in its band. -/
theorem blended_eq (hx : ∀ (r : Fin 8192) (e : Fin 10240), e.val < 4096 → Rows.IsReal (x (ix2 r e))) (hw : ∀ h e, Rows.IsReal (w (ix2 h e))) :
    blended x w = banded x w := by
  funext i
  refine Rows.blend_eq_attend (fun k => ?_) ⟨pos (i 0), score_inside x w hx hw _ _ _ ⟨le_rfl, by omega⟩⟩ _
  by_cases h : InBand (pos (i 0)).val k.val
  · exact Or.inl (score_inside x w hx hw _ _ _ h)
  · exact Or.inr (score_outside x w _ _ _ h)

end Cert.Banded

end
-- ==== Proof.BandWords.lean ====
/- The banded attention: the integer words of the mask and of the places in the bias table. -/
module

public import Idealize.ShloMosaic.Lib.Pointwise
public import proofs.«01_k».proof.Proof.BandSpec

@[expose] public section

set_option maxRecDepth 16384

noncomputable section

namespace Cert.Banded

open Idealize.ShloMosaic

/-- The mask of a difference of chunks: from zero to eight. -/
def mask (d : BitVec 32) : BitVec 1 :=
  IntOp.andi (IntOp.cmpi CmpIPredicate.sge d 0#32) (IntOp.cmpi CmpIPredicate.sle d 8#32)

theorem mask_at : ∀ a b : Fin 32,
    mask (IntOp.subi (BitVec.ofNat 32 a.val) (BitVec.ofNat 32 b.val)) = BitVec.ofBool (decide (b.val ≤ a.val ∧ a.val ≤ b.val + 8)) := by
  decide +kernel

/-- The mask at the chunks of two positions says whether the key is in the query's band. -/
theorem mask_band (p k : Fin 2048) :
    mask (IntOp.subi (BitVec.ofNat 32 (p.val / 64)) (BitVec.ofNat 32 (k.val / 64))) = BitVec.ofBool (decide (InBand p.val k.val)) :=
  mask_at ⟨p.val / 64, by omega⟩ ⟨k.val / 64, by omega⟩

/-- The distance cut off at 128 either way, from 128 on. -/
def cut (d : BitVec 32) : BitVec 32 := IntOp.addi (IntOp.minsi 128#32 (IntOp.maxsi 4294967168#32 d)) 128#32

/-- The place in the table of a distance: a negative one would count from the end. -/
def place (d : BitVec 32) : BitVec 32 :=
  Scalar.select (IntOp.cmpi CmpIPredicate.slt (cut d) 0#32) (IntOp.addi (cut d) 257#32) (cut d)

theorem place_at : ∀ e : Fin 4096, min (place (IntOp.subi (BitVec.ofNat 32 e.val) 2048#32)).toInt.toNat 256 = min (e.val - 1920) 256 := by
  decide +kernel

/-- The place at the distance of two positions is the table's entry for them. -/
theorem place_rel (p k : Fin 2048) :
    min (place (IntOp.subi (BitVec.ofNat 32 p.val) (BitVec.ofNat 32 k.val))).toInt.toNat 256 = (rel p.val k.val).val := by
  have h : IntOp.subi (BitVec.ofNat 32 p.val) (BitVec.ofNat 32 k.val) = IntOp.subi (BitVec.ofNat 32 (p.val + 2048 - k.val)) 2048#32 := by
    apply BitVec.eq_of_toNat_eq
    simp only [IntOp.subi, BitVec.toNat_sub, BitVec.toNat_ofNat]
    omega
  rw [h]
  refine (place_at ⟨p.val + 2048 - k.val, by omega⟩).trans ?_
  simp only [rel]
  omega

end Cert.Banded

end
-- ==== Proof.BandTables.lean ====
/- The banded attention: what the kernel's host lines leave in the table of biases its window reads. -/
module

public import proofs.«01_k».proof.Proof.Gen.BandIdeal.Value
public import Idealize.ShloMosaic.Lib.Pipeline.ValueKit
public import Idealize.ShloMosaic.Lib.Pointwise
public import Idealize.ShloMosaic.Lib.StableHlo.ReadAt
public import Idealize.ShloMosaic.Lib.Tactic.CleanTypes
public import proofs.«01_k».proof.Proof.BandWords

@[expose] public section

set_option maxRecDepth 16384

noncomputable section

namespace Cert.BandIdeal.Attend

open Cert.BandIdeal Cert.BandIdeal.Gen Idealize.ShloMosaic Idealize.ShloMosaic.TcCoe Idealize.SL.Sem
open Cert.Banded (InBand rel bias mask cut place mask_band place_rel)

variable (m : (ℓ : Loc nD τ sig) → Buf (Elt Ideal) ℓ)

/-- The position of row `r` of query block `v`. -/
def rowWords : IVec S5x128x1 32 :=
  addi (broadcastInDim S5x128x1 ![0, 1, 2] bcast_S5x1x1_S5x128x1_0_1_2 (muli (broadcastInDim S5x1x1 ![] bcast_S_S5x1x1 (constantI S_ 32 128#32)) (broadcastInDim S5x1x1 ![0] bcast_S5_S5x1x1_0 (iotaInDim S5 32 0)))) (broadcastInDim S5x128x1 ![0, 1, 2] bcast_S1x128x1_S5x128x1_0_1_2 (broadcastInDim S1x128x1 ![1] bcast_S128_S1x128x1_1 (iotaInDim S128 32 0)))

theorem rowWords_at (v : Fin 5) (r : Fin 128) : rowWords (ix3 v r 0) = BitVec.ofNat 32 (128 * v.val + r.val) := by
  unfold rowWords
  pointwise
  revert v r
  decide +kernel

/-- The position of key `j` of the window. -/
def colWords : IVec S1x1x640 32 := broadcastInDim S1x1x640 ![2] bcast_S640_S1x1x640_2 (iotaInDim S640 32 0)

theorem colWords_at (j : Fin 640) : colWords (ix3 0 0 j) = BitVec.ofNat 32 j.val := by
  unfold colWords
  pointwise

/-- The chunks of the rows. -/
def rowChunks (w : IVec S5x128x1 32) : IVec S5x128x1 32 :=
  select (andi (cmpi .ne (signi w) (broadcastInDim S5x128x1 ![] bcast_S_S5x128x1 (signi (id (constantI S_ 32 64#32))))) (cmpi .ne (Host.remsi w (broadcastInDim S5x128x1 ![] bcast_S_S5x128x1 (id (constantI S_ 32 64#32)))) (broadcastInDim S5x128x1 ![] bcast_S_S5x128x1 (constantI S_ 32 0#32)))) (subi (Host.divsi w (broadcastInDim S5x128x1 ![] bcast_S_S5x128x1 (id (constantI S_ 32 64#32)))) (broadcastInDim S5x128x1 ![] bcast_S_S5x128x1 (constantI S_ 32 1#32))) (Host.divsi w (broadcastInDim S5x128x1 ![] bcast_S_S5x128x1 (id (constantI S_ 32 64#32))))

theorem rowChunks_at (v : Fin 5) (r : Fin 128) : rowChunks rowWords (ix3 v r 0) = BitVec.ofNat 32 ((128 * v.val + r.val) / 64) := by
  unfold rowChunks
  simp only [id]
  pointwise
  rw [rowWords_at]
  revert v r
  decide +kernel

/-- The chunks of the keys. -/
def colChunks (w : IVec S1x1x640 32) : IVec S1x1x640 32 :=
  select (andi (cmpi .ne (signi w) (broadcastInDim S1x1x640 ![] bcast_S_S1x1x640 (signi (id (constantI S_ 32 64#32))))) (cmpi .ne (Host.remsi w (broadcastInDim S1x1x640 ![] bcast_S_S1x1x640 (id (constantI S_ 32 64#32)))) (broadcastInDim S1x1x640 ![] bcast_S_S1x1x640 (constantI S_ 32 0#32)))) (subi (Host.divsi w (broadcastInDim S1x1x640 ![] bcast_S_S1x1x640 (id (constantI S_ 32 64#32)))) (broadcastInDim S1x1x640 ![] bcast_S_S1x1x640 (constantI S_ 32 1#32))) (Host.divsi w (broadcastInDim S1x1x640 ![] bcast_S_S1x1x640 (id (constantI S_ 32 64#32))))

theorem colChunks_at (j : Fin 640) : colChunks colWords (ix3 0 0 j) = BitVec.ofNat 32 (j.val / 64) := by
  unfold colChunks
  simp only [id]
  pointwise
  rw [colWords_at]
  revert j
  decide +kernel

/-- Rows less keys. -/
def less (a : IVec S5x128x1 32) (b : IVec S1x1x640 32) : IVec S5x128x640 32 :=
  subi (broadcastInDim S5x128x640 ![0, 1, 2] bcast_S5x128x1_S5x128x640_0_1_2 a) (broadcastInDim S5x128x640 ![0, 1, 2] bcast_S1x1x640_S5x128x640_0_1_2 b)

theorem less_at (a : IVec S5x128x1 32) (b : IVec S1x1x640 32) (v : Fin 5) (r : Fin 128) (j : Fin 640) :
    less a b (ix3 v r j) = IntOp.subi (a (ix3 v r 0)) (b (ix3 0 0 j)) := by
  unfold less
  pointwise

/-- Where the band lies. -/
def masks (d : IVec S5x128x640 32) : IVec S5x128x640 1 :=
  andi (cmpi .sge d (broadcastInDim S5x128x640 ![] bcast_S_S5x128x640 (constantI S_ 32 0#32))) (cmpi .sle d (broadcastInDim S5x128x640 ![] bcast_S_S5x128x640 (constantI S_ 32 8#32)))

theorem masks_at (d : IVec S5x128x640 32) (i : S5x128x640.Idx) : masks d i = mask (d i) := rfl

/-- The distances, cut off. -/
def cuts (d : IVec S5x128x640 32) : IVec S5x128x640 32 :=
  addi (minsi (broadcastInDim S5x128x640 ![] bcast_S_S5x128x640 (id (constantI S_ 32 128#32))) (maxsi (broadcastInDim S5x128x640 ![] bcast_S_S5x128x640 (id (constantI S_ 32 4294967168#32))) d)) (broadcastInDim S5x128x640 ![] bcast_S_S5x128x640 (constantI S_ 32 128#32))

/-- The places in the table of biases. -/
def places (u : IVec S5x128x640 32) : IVec S5x128x640x1 32 :=
  broadcastInDim S5x128x640x1 ![0, 1, 2] bcast_S5x128x640_S5x128x640x1_0_1_2 (select (cmpi .slt u (broadcastInDim S5x128x640 ![] bcast_S_S5x128x640 (constantI S_ 32 0#32))) (addi u (broadcastInDim S5x128x640 ![] bcast_S_S5x128x640 (constantI S_ 32 257#32))) u)

theorem places_at (d : IVec S5x128x640 32) (v : Fin 5) (r : Fin 128) (j : Fin 640) :
    places (cuts d) (ix4 v r j 0) = place (d (ix3 v r j)) := by
  unfold places cuts place cut
  simp only [id]
  pointwise

/-- The biases at given places. -/
def taken (w : FVec Ideal S16x257 .f32) (i : IVec S5x128x640x1 32) : FVec Ideal S16x5x128x640 .f32 :=
  Host.gather gather_S16x257_S5x128x640x1_S16x5x128x640_0_1_n_n_1_3_161 w i

theorem taken_at (w : FVec Ideal S16x257 .f32) (i : IVec S5x128x640x1 32) (h : Fin 16) (v : Fin 5) (r : Fin 128) (j : Fin 640) :
    taken w i (ix4 h v r j) = w (ix2 h ⟨min (i (ix4 v r j 0)).toInt.toNat 256, by omega⟩) := by
  unfold taken Host.gather
  congr 1
  funext a
  refine Fin.ext ?_
  match a with
  | ⟨0, _⟩ =>
    show 0 + 0 + h.val = h.val
    omega
  | ⟨1, _⟩ =>
    show min (i _).toInt.toNat 256 + 0 + 0 = min (i (ix4 v r j 0)).toInt.toNat 256
    have hi : gather_S16x257_S5x128x640x1_S16x5x128x640_0_1_n_n_1_3_161.siIdx (ix4 h v r j) ⟨0, Nat.one_pos⟩ = ix4 v r j 0 := by
      funext b
      refine Fin.ext ?_
      match b with
      | ⟨0, _⟩ => rfl
      | ⟨1, _⟩ => rfl
      | ⟨2, _⟩ => rfl
      | ⟨3, _⟩ => rfl
    rw [← hi]
    rfl

/-- The table: the biases in the band, minus infinity outside. -/
def table (b : IVec S5x128x640 1) (w : FVec Ideal S16x5x128x640 .f32) : FVec Ideal S5x16x128x640 .f32 :=
  transpose S5x16x128x640 [1, 0, 2, 3] (select (broadcastInDim S16x5x128x640 ![0, 1, 2, 3] bcast_S1x5x128x640_S16x5x128x640_0_1_2_3 (broadcastInDim S1x5x128x640 ![1, 2, 3] bcast_S5x128x640_S1x5x128x640_1_2_3 b)) w (broadcastInDim S16x5x128x640 ![] bcast_S_S16x5x128x640 (id (constant S_ .f32 0xFF800000#32)))) transposes_S16x5x128x640_S5x16x128x640_1_0_2_3

theorem table_at (b : IVec S5x128x640 1) (w : FVec Ideal S16x5x128x640 .f32) (v : Fin 5) (h : Fin 16) (r : Fin 128) (j : Fin 640) :
    table b w (ix4 v h r j) = Scalar.select (b (ix3 v r j)) (w (ix4 h v r j)) ⊥ := by
  unfold table
  simp only [id]
  clean_types
  pointwise
  rw [Softmax.negInf]

/-- The table that the window reads, from the biases. -/
theorem table_eq (c : Dev nD) : (V m c main_v36 : FVec Ideal S5x16x128x640 .f32)
    = table (masks (less (rowChunks rowWords) (colChunks colWords))) (taken (m ((c.tc : Thread nD τ).loc main_arg1)) (places (cuts (less rowWords colWords)))) := by
  unfold V
  after_reads_simp
  rfl

/-- Its entry for row `r` of query block `v` and key `j` of the window is the bias of head `h` there. -/
theorem bias_at (c : Dev nD) (v : Fin 5) (h : Fin 16) (r : Fin 128) (j : Fin 640) :
    (V m c main_v36 : FVec Ideal S5x16x128x640 .f32) (ix4 v h r j)
      = bias (fun e => m ((c.tc : Thread nD τ).loc main_arg1) (ix2 h e)) (128 * v.val + r.val) j.val := by
  rw [table_eq, table_at, taken_at]
  have hm : masks (less (rowChunks rowWords) (colChunks colWords)) (ix3 v r j) = BitVec.ofBool (decide (InBand (128 * v.val + r.val) j.val)) := by
    rw [masks_at, less_at, rowChunks_at, colChunks_at]
    exact mask_band ⟨128 * v.val + r.val, by omega⟩ ⟨j.val, by omega⟩
  have hp : (⟨min (places (cuts (less rowWords colWords)) (ix4 v r j 0)).toInt.toNat 256, by omega⟩ : Fin 257) = rel (128 * v.val + r.val) j.val := by
    refine Fin.ext ?_
    show min (places (cuts (less rowWords colWords)) (ix4 v r j 0)).toInt.toNat 256 = _
    rw [places_at, less_at, rowWords_at, colWords_at]
    exact place_rel ⟨128 * v.val + r.val, by omega⟩ ⟨j.val, by omega⟩
  rw [hm, hp]
  unfold bias
  by_cases hb : InBand (128 * v.val + r.val) j.val <;> simp [hb, Scalar.select]

end Cert.BandIdeal.Attend

end
-- ==== Proof.BandBlock.lean ====
/- The banded attention: what one grid point of the kernel computes, element by element. -/
module

public import proofs.«01_k».proof.Proof.Gen.BandIdeal.Skeleton
public import Idealize.ShloMosaic.Lib.Pointwise
public import proofs.«01_k».proof.Proof.Rows

@[expose] public section

set_option maxRecDepth 16384

noncomputable section

namespace Cert.BandIdeal.Attend

open Cert.BandIdeal Cert.BandIdeal.Gen Idealize.ShloMosaic Idealize.ShloMosaic.TcCoe Idealize.SL.Sem

/-- The scores of a block's rows against the keys of its window. -/
def scores (q : FVec Ideal S128x128 .bf16) (k : FVec Ideal S640x128 .bf16) (b : FVec Ideal S1x1x128x640 .f32) : FVec Ideal S128x640 .f32 :=
  addf (mulf (matmul (φ₂ := .bf16) dot_S128x128_S640x128_S128x640_1_1_0_0_n_n none q k (constant S128x640 .f32 0x00000000#32))
    (broadcast S128x640 (Scalar.ofBits .f32 0x3DB504F3#32))) (shapeCast S128x640 b shapeCasts_S1x1x128x640_S128x640)

/-- The exponentials of a block's scores, each less its row's largest. -/
def expos (s : FVec Ideal S128x640 .f32) : FVec Ideal S128x640 .f32 :=
  exp (subf s (broadcastTo S128x640 (shapeCast S128x1 (multiReduction .maximumf [1] S128 s 0xFF800000#32 reduces_S128x640_S128 (.inl rfl) rfl) shapeCasts_S128_S128x1) broadcasts_S128x1_S128x640))

/-- The score of row `r` against key `j` of the window. -/
def bscore (q : FVec Ideal S128x128 .bf16) (k : FVec Ideal S640x128 .bf16) (b : FVec Ideal S1x1x128x640 .f32) (r : Fin 128) (j : Fin 640) : EReal :=
  (∑ d : Fin 128, q (ix2 r d) * k (ix2 j d)) * Ideal.ofBits .f32 0x3DB504F3#32 + b (ix4 0 0 r j)

theorem scores_at (q : FVec Ideal S128x128 .bf16) (k : FVec Ideal S640x128 .bf16) (b : FVec Ideal S1x1x128x640 .f32) (r : Fin 128) (j : Fin 640) :
    scores q k b (ix2 r j) = bscore q k b r j := by
  unfold scores
  pointwise [bscore]

theorem expos_at (s : FVec Ideal S128x640 .f32) (r : Fin 128) (j : Fin 640) :
    expos s (ix2 r j) = Softmax.expo (fun j => s (ix2 r j)) j := by
  unfold expos
  pointwise [Softmax.expo, Softmax.top]
  rw [Softmax.negInf]

/-- The weighted values over the sum of the weights. -/
theorem blend_at (v : Vec Ideal S640x128 .bf16) (e : FVec Ideal S128x640 .f32) (r d : Fin 128) :
    k0_pay1 (F := Ideal) v e (ix2 r d) = Ideal.div (∑ j : Fin 640, e (ix2 r j) * v (ix2 j d)) (∑ j : Fin 640, e (ix2 r j)) := by
  pointwise [k0_pay1]

/-- Of the exponentials of the scores. -/
theorem body_at (q : Vec Ideal S128x128 .bf16) (k v : Vec Ideal S640x128 .bf16) (b : Vec Ideal S1x1x128x640 .f32) (r d : Fin 128) :
    k0_pay1 (F := Ideal) v (expos (scores q k b)) (ix2 r d) = Rows.blend (bscore q k b r) (fun j => v (ix2 j d)) := by
  rw [blend_at]
  simp only [expos_at, scores_at]
  rfl

/-- Each head's payload is that, of its own queries, keys, values and biases. -/
theorem head0 (q : Vec Ideal S128x128 .bf16) (k v : Vec Ideal S640x128 .bf16) (b : Vec Ideal S1x1x128x640 .f32) :
    k0_pay3 (F := Ideal) q k v b = k0_pay1 (F := Ideal) v (expos (scores q k b)) := rfl
theorem head1 (q : Vec Ideal S128x128 .bf16) (k v : Vec Ideal S640x128 .bf16) (b : Vec Ideal S1x1x128x640 .f32) :
    k0_pay4 (F := Ideal) q k v b = k0_pay1 (F := Ideal) v (expos (scores q k b)) := rfl
theorem head2 (q : Vec Ideal S128x128 .bf16) (k v : Vec Ideal S640x128 .bf16) (b : Vec Ideal S1x1x128x640 .f32) :
    k0_pay1 (F := Ideal) v (k0_pay5 (F := Ideal) q k b) = k0_pay1 (F := Ideal) v (expos (scores q k b)) := rfl
theorem head3 (q : Vec Ideal S128x128 .bf16) (k v : Vec Ideal S640x128 .bf16) (b : Vec Ideal S1x1x128x640 .f32) :
    k0_pay2 (F := Ideal) q k v b = k0_pay1 (F := Ideal) v (expos (scores q k b)) := rfl

end Cert.BandIdeal.Attend

end
-- ==== Proof.Band.lean ====
/- The banded attention: the value of every element of the kernel's result. -/
module

public import proofs.«01_k».proof.Proof.Gen.BandIdeal.Value
public import Idealize.ShloMosaic.Lib.Pipeline.ValueKit
public import Idealize.ShloMosaic.Lib.Pipeline.ReadBack
public import Idealize.ShloMosaic.Lib.Pointwise
public import proofs.«01_k».proof.Proof.BandTables
public import proofs.«01_k».proof.Proof.BandBlock

@[expose] public section

set_option maxRecDepth 16384

noncomputable section

namespace Cert.BandIdeal.Attend

open Cert.BandIdeal Cert.BandIdeal.Gen Idealize.ShloMosaic Idealize.ShloMosaic.TcCoe Idealize.SL.Sem
open Cert.Banded (InBand bias bias_shift score score_outside blended brow pos head qcol kcol vcol)

variable (m : (ℓ : Loc nD τ sig) → Buf (Elt Ideal) ℓ)

/-! ## The windows' blocks -/

/-- Where each window stands at a grid point: the batch, the group of four heads and the block of rows count the point out. -/
theorem idx : ∀ t : Fin cfg0.N,
    (win0_0.index t 0 = t.val / 64 * 16 + t.val % 16 ∧ win0_0.index t 1 = t.val / 16 % 4)
    ∧ (win0_1.index t 0 = t.val / 64 ∧ win0_1.index t 1 = 4 + t.val / 16 % 4)
    ∧ (win0_2.index t 0 = t.val / 64 ∧ win0_2.index t 1 = 8 + t.val / 16 % 4)
    ∧ (win0_3.index t 0 = 0 ∧ win0_3.index t 1 = t.val / 16 % 4 ∧ win0_3.index t 2 = 0 ∧ win0_3.index t 3 = 0)
    ∧ (win0_4.index t 0 = t.val / 64 * 16 + t.val % 16 ∧ win0_4.index t 1 = t.val / 16 % 4) :=
  (by decide +kernel : ∀ t : Fin grid0.N, _)

/-- Where a block's window of keys starts. -/
def start (t : Fin cfg0.N) : ℕ := (t.val % 16 - 4) * 128

/-- Where the keys and values of a grid point's four heads begin. -/
theorem off : ∀ t : Fin cfg0.N,
    (k0_off1 (grid0.coords t) 0 = (t.val % 16 - 4) * 128 ∧ k0_off1 (grid0.coords t) 1 = 0)
    ∧ (k0_off3 (grid0.coords t) 0 = (t.val % 16 - 4) * 128 ∧ k0_off3 (grid0.coords t) 1 = 128)
    ∧ (k0_off5 (grid0.coords t) 0 = (t.val % 16 - 4) * 128 ∧ k0_off5 (grid0.coords t) 1 = 256)
    ∧ (k0_off7 (grid0.coords t) 0 = (t.val % 16 - 4) * 128 ∧ k0_off7 (grid0.coords t) 1 = 384) :=
  (by decide +kernel : ∀ t : Fin grid0.N, _)

/-- Where their biases begin. -/
theorem offb : ∀ t : Fin cfg0.N,
    (k0_off2 (grid0.coords t) 0 = min (t.val % 16) 4 ∧ k0_off2 (grid0.coords t) 1 = 0 ∧ k0_off2 (grid0.coords t) 2 = 0 ∧ k0_off2 (grid0.coords t) 3 = 0)
    ∧ (k0_off4 (grid0.coords t) 0 = min (t.val % 16) 4 ∧ k0_off4 (grid0.coords t) 1 = 1 ∧ k0_off4 (grid0.coords t) 2 = 0 ∧ k0_off4 (grid0.coords t) 3 = 0)
    ∧ (k0_off6 (grid0.coords t) 0 = min (t.val % 16) 4 ∧ k0_off6 (grid0.coords t) 1 = 2 ∧ k0_off6 (grid0.coords t) 2 = 0 ∧ k0_off6 (grid0.coords t) 3 = 0)
    ∧ (k0_off8 (grid0.coords t) 0 = min (t.val % 16) 4 ∧ k0_off8 (grid0.coords t) 1 = 3 ∧ k0_off8 (grid0.coords t) 2 = 0 ∧ k0_off8 (grid0.coords t) 3 = 0) :=
  (by decide +kernel : ∀ t : Fin grid0.N, _)

theorem points : cfg0.N = 256 := by decide +kernel

/-- The row of the whole that row `r` of point `t`'s block is. -/
def prow (t : Fin cfg0.N) (r : Fin 128) : Fin 8192 :=
  ⟨(t.val / 64 * 16 + t.val % 16) * 128 + r.val, by have := t.isLt; have := points; omega⟩

/-- The result column that column `e` of point `t`'s block is. -/
def pcol (t : Fin cfg0.N) (e : Fin 512) : Fin 2048 := ⟨t.val / 16 % 4 * 512 + e.val, by omega⟩

/-- The row of the whole at position `k` of point `t`'s batch. -/
def krow (t : Fin cfg0.N) (k : Fin 2048) : Fin 8192 :=
  ⟨t.val / 64 * 2048 + k.val, by have := t.isLt; have := points; omega⟩

theorem queries (c : Dev nD) (t : Fin cfg0.N) (r : Fin 128) (e : Fin 512) :
    (iblk m c 0 t : FVec Ideal S128x512 .bf16) (ix2 r e) = (V m c main_arg0 : FVec Ideal S8192x10240 .bf16) (ix2 (prow t r) ⟨t.val / 16 % 4 * 512 + e.val, by omega⟩) := by
  obtain ⟨⟨h0, h1⟩, _⟩ := idx t
  have e0 : (win0_0.blk t).view.emb (ix2 r e) = ix2 (prow t r) ⟨t.val / 16 % 4 * 512 + e.val, by omega⟩ := by
    funext a; apply Fin.ext
    match a with
    | ⟨0, _⟩ => blk_simp [h0, prow]
    | ⟨1, _⟩ => blk_simp [h1]
  blk_simp [iblk]
  rw [e0]

theorem keys (c : Dev nD) (t : Fin cfg0.N) (k : Fin 2048) (e : Fin 512) :
    (iblk m c 1 t : FVec Ideal S2048x512 .bf16) (ix2 k e) = (V m c main_arg0 : FVec Ideal S8192x10240 .bf16) (ix2 (krow t k) ⟨2048 + (t.val / 16 % 4 * 512 + e.val), by omega⟩) := by
  obtain ⟨_, ⟨h0, h1⟩, _⟩ := idx t
  have e0 : (win0_1.blk t).view.emb (ix2 k e) = ix2 (krow t k) ⟨2048 + (t.val / 16 % 4 * 512 + e.val), by omega⟩ := by
    funext a; apply Fin.ext
    match a with
    | ⟨0, _⟩ => blk_simp [h0, krow]
    | ⟨1, _⟩ => blk_simp [h1] <;> (show (4 + t.val / 16 % 4) * 512 + e.val = 2048 + (t.val / 16 % 4 * 512 + e.val); omega)
  blk_simp [iblk]
  rw [e0]

theorem vals (c : Dev nD) (t : Fin cfg0.N) (k : Fin 2048) (e : Fin 512) :
    (iblk m c 2 t : FVec Ideal S2048x512 .bf16) (ix2 k e) = (V m c main_arg0 : FVec Ideal S8192x10240 .bf16) (ix2 (krow t k) ⟨4096 + (t.val / 16 % 4 * 512 + e.val), by omega⟩) := by
  obtain ⟨_, _, ⟨h0, h1⟩, _⟩ := idx t
  have e0 : (win0_2.blk t).view.emb (ix2 k e) = ix2 (krow t k) ⟨4096 + (t.val / 16 % 4 * 512 + e.val), by omega⟩ := by
    funext a; apply Fin.ext
    match a with
    | ⟨0, _⟩ => blk_simp [h0, krow]
    | ⟨1, _⟩ => blk_simp [h1] <;> (show (8 + t.val / 16 % 4) * 512 + e.val = 4096 + (t.val / 16 % 4 * 512 + e.val); omega)
  blk_simp [iblk]
  rw [e0]

theorem biases (c : Dev nD) (t : Fin cfg0.N) (v : Fin 5) (h : Fin 4) (r : Fin 128) (j : Fin 640) :
    (iblk m c 3 t : FVec Ideal S5x4x128x640 .f32) (ix4 v h r j)
      = bias (fun e => m ((c.tc : Thread nD τ).loc main_arg1) (ix2 ⟨t.val / 16 % 4 * 4 + h.val, by omega⟩ e)) (128 * v.val + r.val) j.val := by
  obtain ⟨_, _, _, ⟨h0, h1, h2, h3⟩, _⟩ := idx t
  have e0 : (win0_3.blk t).view.emb (ix4 v h r j) = ix4 v ⟨t.val / 16 % 4 * 4 + h.val, by omega⟩ r j := by
    funext a; apply Fin.ext
    match a with
    | ⟨0, _⟩ => blk_simp [h0]
    | ⟨1, _⟩ => blk_simp [h1]
    | ⟨2, _⟩ => blk_simp [h2]
    | ⟨3, _⟩ => blk_simp [h3]
  blk_simp [iblk]
  rw [e0]
  exact bias_at m c v _ r j

/-! ## The parts of the blocks that a head reads -/

/-- A head's columns of a block of rows. -/
theorem part (X : FVec Ideal S128x512 .bf16) (o : Fin 2 → ℕ) (inb) (h : Fin 4) (h0 : o 0 = 0) (h1 : o 1 = h.val * 128) (r d : Fin 128) :
    View.ld (Val := Elt Ideal) (e' := .bf16) X (Rect.unit (s := S128x512) o ![128, 128] inb) (ix2 r d) = X (ix2 r ⟨h.val * 128 + d.val, by omega⟩) := by
  refine View.ld_unit_apply_of _ _ _ _ _ (ix2 r ⟨h.val * 128 + d.val, by omega⟩) fun a => ?_
  match a with
  | ⟨0, _⟩ => show r.val = o 0 + r.val; omega
  | ⟨1, _⟩ => show h.val * 128 + d.val = o 1 + d.val; omega

/-- The position of key `j` of a block's window. -/
def key (t : Fin cfg0.N) (j : Fin 640) : Fin 2048 := ⟨start t + j.val, by unfold start; omega⟩

/-- A head's columns of the rows of a block's window. -/
theorem window (X : FVec Ideal S2048x512 .bf16) (t : Fin cfg0.N) (o : Fin 2 → ℕ) (inb) (h : Fin 4) (h0 : o 0 = (t.val % 16 - 4) * 128)
    (h1 : o 1 = h.val * 128) (j : Fin 640) (d : Fin 128) :
    View.ld (Val := Elt Ideal) (e' := .bf16) X (Rect.unit (s := S2048x512) o ![640, 128] inb) (ix2 j d) = X (ix2 (key t j) ⟨h.val * 128 + d.val, by omega⟩) := by
  refine View.ld_unit_apply_of _ _ _ _ _ (ix2 (key t j) ⟨h.val * 128 + d.val, by omega⟩) fun a => ?_
  match a with
  | ⟨0, _⟩ => show (t.val % 16 - 4) * 128 + j.val = o 0 + j.val; omega
  | ⟨1, _⟩ => show h.val * 128 + d.val = o 1 + d.val; omega

/-- A head's biases for a block of rows. -/
theorem page (X : FVec Ideal S5x4x128x640 .f32) (t : Fin cfg0.N) (o : Fin 4 → ℕ) (inb) (h : Fin 4) (h0 : o 0 = min (t.val % 16) 4)
    (h1 : o 1 = h.val) (h2 : o 2 = 0) (h3 : o 3 = 0) (r : Fin 128) (j : Fin 640) :
    View.ld (Val := Elt Ideal) (e' := .f32) X (Rect.unit (s := S5x4x128x640) o ![1, 1, 128, 640] inb) (ix4 0 0 r j)
      = X (ix4 ⟨min (t.val % 16) 4, by omega⟩ h r j) := by
  refine View.ld_unit_apply_of _ _ _ _ _ (ix4 ⟨min (t.val % 16) 4, by omega⟩ h r j) fun a => ?_
  match a with
  | ⟨0, _⟩ => show min (t.val % 16) 4 = o 0 + 0; omega
  | ⟨1, _⟩ => show h.val = o 1 + 0; omega
  | ⟨2, _⟩ => show r.val = o 2 + r.val; omega
  | ⟨3, _⟩ => show j.val = o 3 + j.val; omega

/-! ## The result -/

/-- What the kernel's array shall be: the banded attention of the first argument under the biases of the second. -/
def attended (c : Dev nD) : S8192x2048.Idx → EReal := blended (V m c main_arg0) (m ((c.tc : Thread nD τ).loc main_arg1))

/-- A key outside a block's window is outside the band of every row of the block. -/
theorem outside (t : Fin cfg0.N) (r : Fin 128) (k : Fin 2048) (hk : k ∉ Set.range (key t)) : ¬ InBand (pos (prow t r)).val k.val := by
  intro h
  unfold InBand at h
  have hp : (pos (prow t r)).val = t.val % 16 * 128 + r.val := by
    show ((t.val / 64 * 16 + t.val % 16) * 128 + r.val) % 2048 = _
    omega
  rw [hp] at h
  refine hk ⟨⟨k.val - start t, ?_⟩, Fin.ext ?_⟩
  · unfold start; omega
  · show start t + (k.val - start t) = k.val
    unfold start; omega

/-- The bias that a block reads for row `r` and key `j` of its window is the one at their positions. -/
theorem bias_key (u : Fin 257 → EReal) (t : Fin cfg0.N) (r : Fin 128) (j : Fin 640) :
    bias u (128 * min (t.val % 16) 4 + r.val) j.val = bias u (pos (prow t r)).val (key t j).val := by
  rw [← bias_shift u _ _ ((t.val % 16 - 4) * 2)]
  congr 1
  · show _ = ((t.val / 64 * 16 + t.val % 16) * 128 + r.val) % 2048
    omega
  · show _ = (t.val % 16 - 4) * 128 + j.val
    omega

/-- A head's part of a grid point's result is the specification's, given that its queries, keys, values and biases are. -/
theorem point (X : S8192x10240.Idx → EReal) (W : S16x257.Idx → EReal) (t : Fin cfg0.N) (h : Fin 4) (q : Vec Ideal S128x128 .bf16)
    (k v : Vec Ideal S640x128 .bf16) (b : Vec Ideal S1x1x128x640 .f32) (r d : Fin 128)
    (hq : ∀ e : Fin 128, q (ix2 r e) = X (ix2 (prow t r) ⟨t.val / 16 % 4 * 512 + (h.val * 128 + e.val), by omega⟩))
    (hk : ∀ (j : Fin 640) (e : Fin 128), k (ix2 j e) = X (ix2 (krow t (key t j)) ⟨2048 + (t.val / 16 % 4 * 512 + (h.val * 128 + e.val)), by omega⟩))
    (hv : ∀ (j : Fin 640) (e : Fin 128), v (ix2 j e) = X (ix2 (krow t (key t j)) ⟨4096 + (t.val / 16 % 4 * 512 + (h.val * 128 + e.val)), by omega⟩))
    (hb : ∀ j : Fin 640, b (ix4 0 0 r j) = bias (fun e => W (ix2 ⟨t.val / 16 % 4 * 4 + h.val, by omega⟩ e)) (128 * min (t.val % 16) 4 + r.val) j.val) :
    k0_pay1 (F := Ideal) v (expos (scores q k b)) (ix2 r d) = blended X W (ix2 (prow t r) (pcol t ⟨h.val * 128 + d.val, by omega⟩)) := by
  have hkr : ∀ k, krow t k = brow (prow t r) k := fun k => Fin.ext (by simp only [krow, brow, prow]; omega)
  have hs : bscore q k b r = fun j => score X W (prow t r) (pcol t ⟨h.val * 128 + d.val, by omega⟩) (key t j) := by
    funext j
    unfold bscore score
    have hh : (⟨t.val / 16 % 4 * 4 + h.val, by omega⟩ : Fin 16) = head (pcol t ⟨h.val * 128 + d.val, by omega⟩) :=
      Fin.ext (by simp only [head, pcol]; omega)
    have hqc : ∀ e : Fin 128, (⟨t.val / 16 % 4 * 512 + (h.val * 128 + e.val), by omega⟩ : Fin 10240) = qcol (pcol t ⟨h.val * 128 + d.val, by omega⟩) e :=
      fun e => Fin.ext (by simp only [qcol, pcol]; omega)
    have hkc : ∀ e : Fin 128, (⟨2048 + (t.val / 16 % 4 * 512 + (h.val * 128 + e.val)), by omega⟩ : Fin 10240) = kcol (pcol t ⟨h.val * 128 + d.val, by omega⟩) e :=
      fun e => Fin.ext (by simp only [kcol, pcol]; omega)
    rw [hb, bias_key, hh]
    congr 2
    refine Cert.Sums.sum_congr_ereal fun e => ?_
    rw [hq, hk, hqc, hkc, hkr]
  have hw : (fun j => v (ix2 j d)) = fun j => X (ix2 (brow (prow t r) (key t j)) (vcol (pcol t ⟨h.val * 128 + d.val, by omega⟩))) := by
    funext j
    rw [hv, hkr]
    rfl
  rw [body_at, hs, hw]
  exact Rows.blend_window (key t) (fun a b hab => Fin.ext (by have := congrArg Fin.val hab; simp only [key] at this; omega))
    (score X W (prow t r) (pcol t ⟨h.val * 128 + d.val, by omega⟩)) (fun k => X (ix2 (brow (prow t r) k) (vcol (pcol t ⟨h.val * 128 + d.val, by omega⟩))))
    fun k hk => score_outside _ _ _ _ k (outside t r k hk)

/-- So is the piece that the body makes of the parts it reads. -/
theorem piece (c : Dev nD) (t : Fin cfg0.N) (h : Fin 4) (oq ok : Fin 2 → ℕ) (ob : Fin 4 → ℕ) (iq ik iv ib)
    (hq0 : oq 0 = 0) (hq1 : oq 1 = h.val * 128) (hk0 : ok 0 = (t.val % 16 - 4) * 128) (hk1 : ok 1 = h.val * 128)
    (hb : ob 0 = min (t.val % 16) 4 ∧ ob 1 = h.val ∧ ob 2 = 0 ∧ ob 3 = 0) (r d : Fin 128) :
    k0_pay1 (F := Ideal) (View.ld (Val := Elt Ideal) (e' := .bf16) (iblk m c 2 t) (Rect.unit (s := S2048x512) ok ![640, 128] iv))
      (expos (scores (View.ld (Val := Elt Ideal) (e' := .bf16) (iblk m c 0 t) (Rect.unit (s := S128x512) oq ![128, 128] iq))
        (View.ld (Val := Elt Ideal) (e' := .bf16) (iblk m c 1 t) (Rect.unit (s := S2048x512) ok ![640, 128] ik))
        (View.ld (Val := Elt Ideal) (e' := .f32) (iblk m c 3 t) (Rect.unit (s := S5x4x128x640) ob ![1, 1, 128, 640] ib)))) (ix2 r d)
      = attended m c (ix2 (prow t r) (pcol t ⟨h.val * 128 + d.val, by omega⟩)) :=
  point (V m c main_arg0) (m ((c.tc : Thread nD τ).loc main_arg1)) t h _ _ _ _ r d
    (fun e => (part (iblk m c 0 t) oq iq h hq0 hq1 r e).trans (queries m c t r _))
    (fun j e => (window (iblk m c 1 t) t ok ik h hk0 hk1 j e).trans (keys m c t _ _))
    (fun j e => (window (iblk m c 2 t) t ok iv h hk0 hk1 j e).trans (vals m c t _ _))
    (fun j => (page (iblk m c 3 t) t ob ib h hb.1 hb.2.1 hb.2.2.1 hb.2.2.2 r j).trans (biases m c t _ h r j))

/-- The block that a grid point leaves. -/
theorem block (c : Dev nD) (t : Fin cfg0.N) (r : Fin 128) (e : Fin 512) :
    outsAt0 m c t (ix2 r e) = attended m c (ix2 (prow t r) (pcol t e)) := by
  obtain ⟨⟨o10, o11⟩, ⟨o30, o31⟩, ⟨o50, o51⟩, o70, o71⟩ := off t
  obtain ⟨b0, b1, b2, b3⟩ := offb t
  unfold outsAt0
  frame_out
  canon_tiles x h
  case piece0 =>
    obtain ⟨a, b, rfl⟩ : ∃ a b : Fin 128, x = ix2 a b := ⟨x 0, x 1, eq_ix2 x⟩
    have hr : r = a := Fin.ext h0
    have he : e = ⟨(3 : Fin 4).val * 128 + b.val, by show 3 * 128 + b.val < 512; omega⟩ := Fin.ext h1
    rw [hr, he]
    exact piece m c t 3 _ _ _ _ _ _ _ rfl rfl o70 o71 b3 a b
  case piece1 =>
    obtain ⟨a, b, rfl⟩ : ∃ a b : Fin 128, x = ix2 a b := ⟨x 0, x 1, eq_ix2 x⟩
    have hr : r = a := Fin.ext h0
    have he : e = ⟨(2 : Fin 4).val * 128 + b.val, by show 2 * 128 + b.val < 512; omega⟩ := Fin.ext h1
    rw [hr, he]
    exact piece m c t 2 _ _ _ _ _ _ _ rfl rfl o50 o51 b2 a b
  case piece2 =>
    obtain ⟨a, b, rfl⟩ : ∃ a b : Fin 128, x = ix2 a b := ⟨x 0, x 1, eq_ix2 x⟩
    have hr : r = a := Fin.ext h0
    have he : e = ⟨(1 : Fin 4).val * 128 + b.val, by show 1 * 128 + b.val < 512; omega⟩ := Fin.ext h1
    rw [hr, he]
    exact piece m c t 1 _ _ _ _ _ _ _ rfl rfl o30 o31 b1 a b
  case piece3 =>
    obtain ⟨a, b, rfl⟩ : ∃ a b : Fin 128, x = ix2 a b := ⟨x 0, x 1, eq_ix2 x⟩
    have hr : r = a := Fin.ext h0
    have he : e = ⟨(0 : Fin 4).val * 128 + b.val, by show 0 * 128 + b.val < 512; omega⟩ := Fin.ext ((show e.val = b.val from h1).trans (by show b.val = 0 * 128 + b.val; omega))
    rw [hr, he]
    exact piece m c t 0 _ _ _ _ _ _ _ rfl rfl o10 o11 b0 a b

/-- The kernel's result array is the banded attention of its arguments, the division left to the end. -/
theorem final (c : Dev nD) : (dats m 0 c).arrAt 4 (cfgs 0).N = attended m c := by
  refine (dats m 0 c).arrAt_eq_of_covers 4 _ (by decide +kernel) fun t hf y => ?_
  obtain ⟨_, _, _, _, ⟨h40, h41⟩⟩ := idx t
  blk_simp
  rw [after0_4]
  idx_vars y
  refine (block m c t y0 y1).trans (congrArg _ ?_)
  funext a; apply Fin.ext
  match a with
  | ⟨0, _⟩ => blk_simp [h40, prow]
  | ⟨1, _⟩ => blk_simp [h41, pcol]

/-- The kernel's run: the result array ends at that function of the arguments, which stay as they were. -/
theorem run (ρ : Dev nD → PrngReg) :
    θ_run defs (onTc (τ := τ) (main (F := Ideal))) ⟨m, fun _ => 0, ρ⟩ fun r => ∀ c : Dev nD,
      r.2.mem ((c.tc : Thread nD τ).loc main_v37)
          = blended (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(Value.post4 m r h c).trans ((final m c).trans ?_),
      Value.kept_main_arg0 m r h c, Value.kept_main_arg1 m r h c⟩) (run_main m ρ)
  unfold attended
  rw [V_main_arg0 m c]

end Cert.BandIdeal.Attend

end
-- ==== Proof.BandRef.lean ====
/- The banded attention: what the reference computes, stage by stage. -/
module

public import proofs.«01_k».proof.Proof.BandWords
public import proofs.«01_k».proof.Proof.Gen.BandRefIdeal.Run
public import Idealize.ShloMosaic.Lib.Tactic.CleanTypes
public import Idealize.ShloMosaic.Lib.Pointwise

@[expose] public section

set_option maxRecDepth 16384

noncomputable section

namespace Cert.BandRefIdeal.Attend

open Cert.BandRefIdeal Cert.BandRefIdeal.Gen Idealize.ShloMosaic Idealize.ShloMosaic.TcCoe Idealize.SL.Sem
open Cert.Banded (InBand rel bias mask cut place mask_band place_rel score banded brow pos head qcol kcol vcol)

/-! ## Queries, keys and values -/

/-- The first 2048 columns, head by head. -/
def queries (x : FVec Ideal S8192x10240 .bf16) : FVec Ideal S4x2048x16x128 .f32 :=
  shapeCast S4x2048x16x128 (extractStridedSlice S4x2048x2048 ![0, 0, 0] (shapeCast S4x2048x10240 (extf .f32 x bitsLt_bf16_f32) shapeCasts_S8192x10240_S4x2048x10240) slices_S4x2048x10240_S4x2048x2048_0_0_0) shapeCasts_S4x2048x2048_S4x2048x16x128

/-- The 2048 columns from `2048` on. -/
def keys (x : FVec Ideal S8192x10240 .bf16) : FVec Ideal S4x2048x16x128 .f32 :=
  shapeCast S4x2048x16x128 (extractStridedSlice S4x2048x2048 ![0, 0, 2048] (shapeCast S4x2048x10240 (extf .f32 x bitsLt_bf16_f32) shapeCasts_S8192x10240_S4x2048x10240) slices_S4x2048x10240_S4x2048x2048_0_0_2048) shapeCasts_S4x2048x2048_S4x2048x16x128

/-- The 2048 columns from `4096` on. -/
def values (x : FVec Ideal S8192x10240 .bf16) : FVec Ideal S4x2048x16x128 .f32 :=
  shapeCast S4x2048x16x128 (extractStridedSlice S4x2048x2048 ![0, 0, 4096] (shapeCast S4x2048x10240 (extf .f32 x bitsLt_bf16_f32) shapeCasts_S8192x10240_S4x2048x10240) slices_S4x2048x10240_S4x2048x2048_0_0_4096) shapeCasts_S4x2048x2048_S4x2048x16x128

theorem queries_at (x : FVec Ideal S8192x10240 .bf16) (b : Fin 4) (p : Fin 2048) (h : Fin 16) (d : Fin 128) :
    queries x (ix4 b p h d) = x (ix2 ⟨b.val * 2048 + p.val, by omega⟩ ⟨h.val * 128 + d.val, by omega⟩) := by
  unfold queries
  clean_types
  pointwise

theorem keys_at (x : FVec Ideal S8192x10240 .bf16) (b : Fin 4) (p : Fin 2048) (h : Fin 16) (d : Fin 128) :
    keys x (ix4 b p h d) = x (ix2 ⟨b.val * 2048 + p.val, by omega⟩ ⟨2048 + (h.val * 128 + d.val), by omega⟩) := by
  unfold keys
  clean_types
  pointwise

theorem values_at (x : FVec Ideal S8192x10240 .bf16) (b : Fin 4) (p : Fin 2048) (h : Fin 16) (d : Fin 128) :
    values x (ix4 b p h d) = x (ix2 ⟨b.val * 2048 + p.val, by omega⟩ ⟨4096 + (h.val * 128 + d.val), by omega⟩) := by
  unfold values
  clean_types
  pointwise

/-! ## The band and the biases -/

/-- The positions, as a column. -/
def rowWords : IVec S2048x1 32 := broadcastInDim S2048x1 ![0] bcast_S2048_S2048x1_0 (iotaInDim S2048 32 0)

theorem rowWords_at (p : Fin 2048) : rowWords (ix2 p 0) = BitVec.ofNat 32 p.val := by
  unfold rowWords
  pointwise

/-- The positions, as a row. -/
def colWords : IVec S1x2048 32 := broadcastInDim S1x2048 ![1] bcast_S2048_S1x2048_1 (iotaInDim S2048 32 0)

theorem colWords_at (k : Fin 2048) : colWords (ix2 0 k) = BitVec.ofNat 32 k.val := by
  unfold colWords
  pointwise

/-- The chunks of the column. -/
def rowChunks (w : IVec S2048x1 32) : IVec S2048x1 32 :=
  select (andi (cmpi .ne (signi w) (broadcastInDim S2048x1 ![] bcast_S_S2048x1 (signi (id (constantI S_ 32 64#32))))) (cmpi .ne (Host.remsi w (broadcastInDim S2048x1 ![] bcast_S_S2048x1 (id (constantI S_ 32 64#32)))) (broadcastInDim S2048x1 ![] bcast_S_S2048x1 (constantI S_ 32 0#32)))) (subi (Host.divsi w (broadcastInDim S2048x1 ![] bcast_S_S2048x1 (id (constantI S_ 32 64#32)))) (broadcastInDim S2048x1 ![] bcast_S_S2048x1 (constantI S_ 32 1#32))) (Host.divsi w (broadcastInDim S2048x1 ![] bcast_S_S2048x1 (id (constantI S_ 32 64#32))))

theorem rowChunks_at (p : Fin 2048) : rowChunks rowWords (ix2 p 0) = BitVec.ofNat 32 (p.val / 64) := by
  unfold rowChunks
  simp only [id]
  pointwise
  rw [rowWords_at]
  revert p
  decide +kernel

/-- The chunks of the row. -/
def colChunks (w : IVec S1x2048 32) : IVec S1x2048 32 :=
  select (andi (cmpi .ne (signi w) (broadcastInDim S1x2048 ![] bcast_S_S1x2048 (signi (id (constantI S_ 32 64#32))))) (cmpi .ne (Host.remsi w (broadcastInDim S1x2048 ![] bcast_S_S1x2048 (id (constantI S_ 32 64#32)))) (broadcastInDim S1x2048 ![] bcast_S_S1x2048 (constantI S_ 32 0#32)))) (subi (Host.divsi w (broadcastInDim S1x2048 ![] bcast_S_S1x2048 (id (constantI S_ 32 64#32)))) (broadcastInDim S1x2048 ![] bcast_S_S1x2048 (constantI S_ 32 1#32))) (Host.divsi w (broadcastInDim S1x2048 ![] bcast_S_S1x2048 (id (constantI S_ 32 64#32))))

theorem colChunks_at (k : Fin 2048) : colChunks colWords (ix2 0 k) = BitVec.ofNat 32 (k.val / 64) := by
  unfold colChunks
  simp only [id]
  pointwise
  rw [colWords_at]
  revert k
  decide +kernel

/-- Queries' words less keys'. -/
def less (a : IVec S2048x1 32) (b : IVec S1x2048 32) : IVec S2048x2048 32 :=
  subi (broadcastInDim S2048x2048 ![0, 1] bcast_S2048x1_S2048x2048_0_1 a) (broadcastInDim S2048x2048 ![0, 1] bcast_S1x2048_S2048x2048_0_1 b)

theorem less_at (a : IVec S2048x1 32) (b : IVec S1x2048 32) (p k : Fin 2048) :
    less a b (ix2 p k) = IntOp.subi (a (ix2 p 0)) (b (ix2 0 k)) := by
  unfold less
  pointwise

/-- Where the band lies. -/
def masks (d : IVec S2048x2048 32) : IVec S2048x2048 1 :=
  andi (cmpi .sge d (broadcastInDim S2048x2048 ![] bcast_S_S2048x2048 (constantI S_ 32 0#32))) (cmpi .sle d (broadcastInDim S2048x2048 ![] bcast_S_S2048x2048 (constantI S_ 32 8#32)))

theorem masks_at (d : IVec S2048x2048 32) (i : S2048x2048.Idx) : masks d i = mask (d i) := rfl

/-- The distances, cut off. -/
def cuts (d : IVec S2048x2048 32) : IVec S2048x2048 32 :=
  addi (minsi (broadcastInDim S2048x2048 ![] bcast_S_S2048x2048 (id (constantI S_ 32 128#32))) (maxsi (broadcastInDim S2048x2048 ![] bcast_S_S2048x2048 (id (constantI S_ 32 4294967168#32))) d)) (broadcastInDim S2048x2048 ![] bcast_S_S2048x2048 (constantI S_ 32 128#32))

/-- The places in the table of biases. -/
def places (u : IVec S2048x2048 32) : IVec S2048x2048x1 32 :=
  broadcastInDim S2048x2048x1 ![0, 1] bcast_S2048x2048_S2048x2048x1_0_1 (select (cmpi .slt u (broadcastInDim S2048x2048 ![] bcast_S_S2048x2048 (constantI S_ 32 0#32))) (addi u (broadcastInDim S2048x2048 ![] bcast_S_S2048x2048 (constantI S_ 32 257#32))) u)

theorem places_at (d : IVec S2048x2048 32) (p k : Fin 2048) : places (cuts d) (ix3 p k 0) = place (d (ix2 p k)) := by
  unfold places cuts place cut
  simp only [id]
  pointwise

/-- The biases at given places. -/
def taken (w : FVec Ideal S16x257 .f32) (i : IVec S2048x2048x1 32) : FVec Ideal S16x2048x2048 .f32 :=
  Host.gather gather_S16x257_S2048x2048x1_S16x2048x2048_0_1_n_n_1_2_161 w i

theorem taken_at (w : FVec Ideal S16x257 .f32) (i : IVec S2048x2048x1 32) (h : Fin 16) (p k : Fin 2048) :
    taken w i (ix3 h p k) = w (ix2 h ⟨min (i (ix3 p k 0)).toInt.toNat 256, by omega⟩) := by
  unfold taken Host.gather
  congr 1
  funext a
  refine Fin.ext ?_
  match a with
  | ⟨0, _⟩ =>
    show 0 + 0 + h.val = h.val
    omega
  | ⟨1, _⟩ =>
    show min (i _).toInt.toNat 256 + 0 + 0 = min (i (ix3 p k 0)).toInt.toNat 256
    have hi : gather_S16x257_S2048x2048x1_S16x2048x2048_0_1_n_n_1_2_161.siIdx (ix3 h p k) ⟨0, Nat.one_pos⟩ = ix3 p k 0 := by
      funext b
      refine Fin.ext ?_
      match b with
      | ⟨0, _⟩ => rfl
      | ⟨1, _⟩ => rfl
      | ⟨2, _⟩ => rfl
    rw [← hi]
    rfl

/-! ## The scores and their softmax -/

/-- The scaled products of queries and keys. -/
def products (q k : FVec Ideal S4x2048x16x128 .f32) : FVec Ideal S4x16x2048x2048 .f32 :=
  mulf (Host.dotGeneral dot_S4x2048x16x128_S4x2048x16x128_S4x16x2048x2048_3_3_1_1_02_02 none q k) (broadcastInDim S4x16x2048x2048 ![] bcast_S_S4x16x2048x2048 (constant S_ .f32 0x3DB504F3#32))

theorem products_at (q k : FVec Ideal S4x2048x16x128 .f32) (b : Fin 4) (h : Fin 16) (p j : Fin 2048) :
    products q k (ix4 b h p j) = (∑ d : Fin 128, q (ix4 b p h d) * k (ix4 b j h d)) * Ideal.ofBits .f32 0x3DB504F3#32 := by
  unfold products
  clean_types
  pointwise

/-- The products with the biases added. -/
def biased (s : FVec Ideal S4x16x2048x2048 .f32) (t : FVec Ideal S16x2048x2048 .f32) : FVec Ideal S4x16x2048x2048 .f32 :=
  addf s (broadcastInDim S4x16x2048x2048 ![0, 1, 2, 3] bcast_S1x16x2048x2048_S4x16x2048x2048_0_1_2_3 (broadcastInDim S1x16x2048x2048 ![1, 2, 3] bcast_S16x2048x2048_S1x16x2048x2048_1_2_3 t))

theorem biased_at (s : FVec Ideal S4x16x2048x2048 .f32) (t : FVec Ideal S16x2048x2048 .f32) (b : Fin 4) (h : Fin 16) (p j : Fin 2048) :
    biased s t (ix4 b h p j) = s (ix4 b h p j) + t (ix3 h p j) := by
  unfold biased
  clean_types
  pointwise

/-- The scores: minus infinity outside the band. -/
def scores (a : IVec S2048x2048 1) (s : FVec Ideal S4x16x2048x2048 .f32) : FVec Ideal S4x16x2048x2048 .f32 :=
  select (broadcastInDim S4x16x2048x2048 ![2, 3] bcast_S2048x2048_S4x16x2048x2048_2_3 a) s (broadcastInDim S4x16x2048x2048 ![] bcast_S_S4x16x2048x2048 (id (constant S_ .f32 0xFF800000#32)))

theorem scores_at (a : IVec S2048x2048 1) (s : FVec Ideal S4x16x2048x2048 .f32) (b : Fin 4) (h : Fin 16) (p j : Fin 2048) :
    scores a s (ix4 b h p j) = Scalar.select (a (ix2 p j)) (s (ix4 b h p j)) ⊥ := by
  unfold scores
  simp only [id]
  clean_types
  pointwise
  rw [Softmax.negInf]

/-- The largest score of every row. -/
def tops (s : FVec Ideal S4x16x2048x2048 .f32) : FVec Ideal S4x16x2048 .f32 :=
  Host.reduce FloatOps.maximumf s (constant S_ .f32 0xFF800000#32) reducesTo_S4x16x2048x2048_S4x16x2048_d3 h_S_

theorem tops_at (s : FVec Ideal S4x16x2048x2048 .f32) (b : Fin 4) (h : Fin 16) (p : Fin 2048) :
    tops s (ix3 b h p) = Softmax.top fun k => s (ix4 b h p k) := by
  have hr : S4x16x2048x2048.Reduces [3] S4x16x2048 := by decide
  refine (Softmax.reduce_max s _ _ hr _ _).trans ?_
  rw [Softmax.negInf]
  unfold Softmax.top
  congr 1
  funext k
  congr 1
  funext a
  match a with
  | 0 => rfl
  | 1 => rfl
  | 2 => rfl
  | 3 => rfl

/-- No less than minus infinity. -/
def bounded (u : FVec Ideal S4x16x2048 .f32) : FVec Ideal S4x16x2048 .f32 :=
  maximumf (broadcastInDim S4x16x2048 ![] bcast_S_S4x16x2048 (constant S_ .f32 0xFF800000#32)) u

theorem bounded_at (u : FVec Ideal S4x16x2048 .f32) (b : Fin 4) (h : Fin 16) (p : Fin 2048) : bounded u (ix3 b h p) = u (ix3 b h p) := by
  unfold bounded
  clean_types
  pointwise
  rw [Softmax.negInf]
  exact max_eq_right bot_le

/-- The exponentials of the scores, each less its row's largest. -/
def expos (s : FVec Ideal S4x16x2048x2048 .f32) (u : FVec Ideal S4x16x2048 .f32) : FVec Ideal S4x16x2048x2048 .f32 :=
  Host.exp (subf s (broadcastInDim S4x16x2048x2048 ![0, 1, 2, 3] bcast_S4x16x2048x1_S4x16x2048x2048_0_1_2_3 (broadcastInDim S4x16x2048x1 ![0, 1, 2] bcast_S4x16x2048_S4x16x2048x1_0_1_2 u)))

theorem expos_at (s : FVec Ideal S4x16x2048x2048 .f32) (u : FVec Ideal S4x16x2048 .f32) (b : Fin 4) (h : Fin 16) (p k : Fin 2048) :
    expos s u (ix4 b h p k) = Ideal.exp (s (ix4 b h p k) - u (ix3 b h p)) := by
  unfold expos
  clean_types
  pointwise

/-- The exponentials over their rows' sums. -/
def softs (e : FVec Ideal S4x16x2048x2048 .f32) : FVec Ideal S4x16x2048x2048 .f32 :=
  Host.divf e (broadcastInDim S4x16x2048x2048 ![0, 1, 2, 3] bcast_S4x16x2048x1_S4x16x2048x2048_0_1_2_3 (broadcastInDim S4x16x2048x1 ![0, 1, 2] bcast_S4x16x2048_S4x16x2048x1_0_1_2 (Host.reduceAdd e (constant S_ .f32 0x00000000#32) reducesTo_S4x16x2048x2048_S4x16x2048_d3 h_S_)))

theorem softs_at (e : FVec Ideal S4x16x2048x2048 .f32) (b : Fin 4) (h : Fin 16) (p k : Fin 2048) :
    softs e (ix4 b h p k) = Ideal.div (e (ix4 b h p k)) (∑ j : Fin 2048, e (ix4 b h p j)) := by
  unfold softs
  clean_types
  pointwise

/-! ## The values -/

/-- The values under the weights, the heads side by side. -/
def mixed (v : FVec Ideal S4x2048x16x128 .f32) (w : FVec Ideal S4x16x2048x2048 .f32) : FVec Ideal S8192x2048 .bf16 :=
  truncf .bf16 (shapeCast S8192x2048 (transpose S4x2048x16x128 [0, 3, 1, 2] (Host.dotGeneral dot_S4x2048x16x128_S4x16x2048x2048_S4x16x128x2048_1_3_3_2_02_01 none v w) transposes_S4x16x128x2048_S4x2048x16x128_0_3_1_2) shapeCasts_S4x2048x16x128_S8192x2048) bitsLt_bf16_f32

theorem mixed_at (v : FVec Ideal S4x2048x16x128 .f32) (w : FVec Ideal S4x16x2048x2048 .f32) (r : Fin 8192) (j : Fin 2048) :
    mixed v w (ix2 r j) = ∑ k : Fin 2048, v (ix4 ⟨r.val / 2048, by omega⟩ k ⟨j.val / 128, by omega⟩ ⟨j.val % 128, by omega⟩)
      * w (ix4 ⟨r.val / 2048, by omega⟩ ⟨j.val / 128, by omega⟩ ⟨r.val % 2048, by omega⟩ k) := by
  unfold mixed
  clean_types
  pointwise

/-! ## All stages -/

/-- The scores of every batch, head, row and position. -/
def allScores (x : FVec Ideal S8192x10240 .bf16) (w : FVec Ideal S16x257 .f32) : FVec Ideal S4x16x2048x2048 .f32 :=
  scores (masks (less (rowChunks rowWords) (colChunks colWords))) (biased (products (queries x) (keys x)) (taken w (places (cuts (less rowWords colWords)))))

/-- The softmax of the scores. -/
def maps (s : FVec Ideal S4x16x2048x2048 .f32) : FVec Ideal S4x16x2048x2048 .f32 := softs (expos s (bounded (tops s)))

/-- The stages one after the other. -/
def whole (x : FVec Ideal S8192x10240 .bf16) (w : FVec Ideal S16x257 .f32) : FVec Ideal S8192x2048 .bf16 :=
  mixed (values x) (maps (allScores x w))

theorem maps_at (s : FVec Ideal S4x16x2048x2048 .f32) (b : Fin 4) (h : Fin 16) (p k : Fin 2048) :
    maps s (ix4 b h p k) = Softmax.weight (fun k => s (ix4 b h p k)) k := by
  have he : ∀ k, expos s (bounded (tops s)) (ix4 b h p k) = Softmax.expo (fun k => s (ix4 b h p k)) k := by
    intro k
    rw [expos_at, bounded_at, tops_at]
    rfl
  unfold maps
  rw [softs_at]
  simp only [he]
  rfl

theorem allScores_at (x : FVec Ideal S8192x10240 .bf16) (w : FVec Ideal S16x257 .f32) (r : Fin 8192) (j k : Fin 2048) :
    allScores x w (ix4 ⟨r.val / 2048, by omega⟩ ⟨j.val / 128, by omega⟩ ⟨r.val % 2048, by omega⟩ k) = score x w r j k := by
  unfold allScores
  rw [scores_at, biased_at, products_at, taken_at]
  have hm : masks (less (rowChunks rowWords) (colChunks colWords)) (ix2 ⟨r.val % 2048, by omega⟩ k) = BitVec.ofBool (decide (InBand (pos r).val k.val)) := by
    rw [masks_at, less_at, rowChunks_at, colChunks_at]
    exact mask_band (pos r) k
  have hp : (⟨min (places (cuts (less rowWords colWords)) (ix3 ⟨r.val % 2048, by omega⟩ k 0)).toInt.toNat 256, by omega⟩ : Fin 257) = rel (pos r).val k.val := by
    refine Fin.ext ?_
    show min (places (cuts (less rowWords colWords)) (ix3 ⟨r.val % 2048, by omega⟩ k 0)).toInt.toNat 256 = _
    rw [places_at, less_at, rowWords_at, colWords_at]
    exact place_rel (pos r) k
  have hq : ∀ d : Fin 128, queries x (ix4 ⟨r.val / 2048, by omega⟩ ⟨r.val % 2048, by omega⟩ ⟨j.val / 128, by omega⟩ d) = x (ix2 r (qcol j d)) := by
    intro d
    rw [queries_at]
    have hr : (⟨r.val / 2048 * 2048 + r.val % 2048, by omega⟩ : Fin 8192) = r := Fin.ext (by simp only; omega)
    rw [hr]
    rfl
  have hk : ∀ d : Fin 128, keys x (ix4 ⟨r.val / 2048, by omega⟩ k ⟨j.val / 128, by omega⟩ d) = x (ix2 (brow r k) (kcol j d)) := by
    intro d
    rw [keys_at]
    rfl
  rw [hm, hp]
  simp only [hq, hk]
  unfold score bias
  by_cases h : InBand (pos r).val k.val
  · rw [if_pos h, decide_eq_true h]
    rfl
  · rw [if_neg h, decide_eq_false h, EReal.add_bot]
    rfl

/-- The stages together compute the banded attention. -/
theorem whole_eq (x : FVec Ideal S8192x10240 .bf16) (w : FVec Ideal S16x257 .f32) : whole x w = banded x w := by
  funext i
  idx_vars i
  refine (mixed_at _ _ i0 i1).trans ?_
  show _ = ∑ k : Fin 2048, Softmax.weight (score x w i0 i1) k * x (ix2 (brow i0 k) (vcol i1))
  refine Cert.Sums.sum_congr_ereal fun k => ?_
  rw [values_at, maps_at]
  simp only [allScores_at]
  have hc : (⟨4096 + (i1.val / 128 * 128 + i1.val % 128), by omega⟩ : Fin 10240) = vcol i1 := Fin.ext (by simp only [vcol]; omega)
  rw [hc]
  exact mul_comm (G := EReal) _ _

/-- The reference's result, from the contents of its arguments' buffers, is the banded attention of them. -/
theorem value (m : (ℓ : Loc nD τ sig) → Buf (Elt Ideal) ℓ) (c : Dev nD) :
    Value.res_main_v57 m c = banded (m ((c.tc : Thread nD τ).loc main_arg0)) (m ((c.tc : Thread nD τ).loc main_arg1)) := by
  refine Eq.trans ?_ (whole_eq _ _)
  unfold Value.res_main_v57 whole maps allScores mixed softs expos bounded tops scores biased products taken places cuts masks less
    colChunks rowChunks colWords rowWords values keys queries
  rfl

end Cert.BandRefIdeal.Attend

end
-- ==== Proof.BandClaim.lean ====
/- The banded attention: what the precondition says, and the claims about the two programs. -/
module

public import proofs.«01_k».proof.Defs
public import proofs.«01_k».proof.Proof.Band
public import proofs.«01_k».proof.Proof.BandRef
public import proofs.«01_k».proof.Proof.Gen.Band.Frame
public import proofs.«01_k».proof.Proof.Gen.Pre_finite_scores
public import Idealize.ShloMosaic.Lib.Claim

@[expose] public section

set_option maxRecDepth 16384

noncomputable section

namespace Cert.Pre_finite_scores

open Cert.Pre_finite_scores.Gen Idealize.ShloMosaic

/-- The half-width literal the precondition compares with is infinity. -/
theorem inf_bf16 : Ideal.ofBits .bf16 0x7F80#16 = ⊤ := by simp [Ideal.ofBits, Ideal.ieee]

/-- So is the full-width one. -/
theorem inf_f32 : Ideal.ofBits .f32 0x7F800000#32 = ⊤ := by simp [Ideal.ofBits, Ideal.ieee]

/-- A comparison that came out true. -/
theorem lt_of_cmp {x y : EReal} (h : BitVec.ofBool (decide (x < y)) = 1#1) : x < y := by
  by_cases hh : x < y
  · exact hh
  · rw [decide_eq_false hh] at h
    exact absurd h (by decide)

/-- Under the precondition the first 4096 columns, queries and keys, are reals. -/
theorem real_left (x : FVec Ideal S8192x10240 .bf16) (w : FVec Ideal S16x257 .f32) (h : (fn (F := Ideal) x w).1 = fun _ => 1#1)
    (r : Fin 8192) (e : Fin 10240) (he : e.val < 4096) : Rows.IsReal (x (ix2 r e)) := by
  have h1 := congrFun h (ix2 r ⟨e.val, he⟩)
  have h2 : BitVec.ofBool (decide (max (x (ix2 r e)) (-x (ix2 r e)) < Ideal.ofBits .bf16 0x7F80#16)) = 1#1 := by
    refine Eq.trans ?_ h1
    unfold fn
    clean_types
    pointwise
    rfl
  rw [inf_bf16] at h2
  exact Rows.IsReal.of_abs (lt_of_cmp h2)

/-- Under the precondition the biases are reals. -/
theorem real_right (x : FVec Ideal S8192x10240 .bf16) (w : FVec Ideal S16x257 .f32) (h : (fn (F := Ideal) x w).2 = fun _ => 1#1)
    (j : Fin 16) (e : Fin 257) : Rows.IsReal (w (ix2 j e)) := by
  have h1 := congrFun h (ix2 j e)
  have h2 : BitVec.ofBool (decide (max (w (ix2 j e)) (-w (ix2 j e)) < Ideal.ofBits .f32 0x7F800000#32)) = 1#1 := by
    refine Eq.trans ?_ h1
    unfold fn
    clean_types
    pointwise
    rfl
  rw [inf_f32] at h2
  exact Rows.IsReal.of_abs (lt_of_cmp h2)

end Cert.Pre_finite_scores

namespace Cert.Proof.BandClaims

open Idealize.ShloMosaic Idealize.SL.Sem

/-- The kernel runs, faults nowhere, and leaves its arguments and the counters as they were. -/
theorem frame : Cert.quiescent_Band := fun m ρ _ => Cert.Band.Gen.frame m ρ
/-- So does the kernel over the extended reals. -/
theorem frame_ideal : Cert.quiescent_BandIdeal := fun m ρ _ => Cert.BandIdeal.Gen.frame m ρ
/-- All the more so under the precondition. -/
theorem frame_ideal_finite : Cert.quiescent_BandIdeal_pre_finite_scores := fun m ρ _ => Cert.BandIdeal.Gen.frame m ρ
/-- So does the reference, which has no counters. -/
theorem frame_ref : Cert.quiescent_BandRefIdeal := fun m ρ _ =>
  (θ_run Cert.BandRefIdeal.defs _ _).mono (fun r h => ⟨fun c => (h c).2,
      Idealize.ShloMosaic.sem_eq_zero_of_no_sems (by decide) r.2⟩)
    (Cert.BandRefIdeal.Value.run (F := Ideal) m ρ)
/-- All the more so under the precondition. -/
theorem frame_ref_finite : Cert.quiescent_BandRefIdeal_pre_finite_scores := fun m ρ _ => frame_ref m ρ trivial
/-- The kernel over the extended reals is the kernel, no operation exchanged. -/
theorem preserves : Cert.preserves_Band_BandIdeal := trivial
/-- From arguments that agree, queries, keys and biases being finite, the kernel and the reference end with the same result
    array: the banded attention. -/
theorem algebraic : Cert.algebraic_BandIdeal_BandRefIdeal_pre_finite_scores := by
  intro m ρ m' ρ' hpre hag
  refine ⟨_, Cert.BandIdeal.Attend.run m ρ, ?_⟩
  refine (θ_run Cert.BandRefIdeal.defs _ _).mono (fun _ h c => ⟨(h c).1.trans ?_, (h c).2⟩)
    (Cert.BandRefIdeal.Value.run (F := Ideal) m' ρ')
  rw [Cert.BandRefIdeal.Attend.value, (hag c).1, (hag c).2]
  exact (Cert.Banded.blended_eq _ _ (Cert.Pre_finite_scores.real_left _ _ (hpre c).1) (Cert.Pre_finite_scores.real_right _ _ (hpre c).2)).symm

end Cert.Proof.BandClaims

end
-- ==== Proof.DiffSpec.lean ====
/- The differential attention: what every element of its result is. -/
module

public import Idealize.ShloMosaic.Lib.Pointwise
public import proofs.«01_k».proof.Proof.Softmax

@[expose] public section

noncomputable section

namespace Cert.Differential

open Idealize.ShloMosaic

/-- The angle by which position `p` turns column `d` of a head: the position over ten thousand to the power of twice the
column over the width, the second half of the columns turning as the first. -/
def angle (p : Fin 2048) (d : Fin 128) : EReal :=
  if h : d.val < 64 then
    FloatOps.sitofp (F := Ideal) .f32 (BitVec.ofNat 32 p.val) * Ideal.div 1 (Ideal.pow (Ideal.ofBits .f32 1176256512#32)
      (Ideal.div (Ideal.ofBits .f32 1073741824#32 * FloatOps.sitofp (F := Ideal) .f32 (BitVec.ofNat 32 d.val)) (Ideal.ofBits .f32 1124073472#32)))
  else
    FloatOps.sitofp (F := Ideal) .f32 (BitVec.ofNat 32 p.val) * Ideal.div 1 (Ideal.pow (Ideal.ofBits .f32 1176256512#32)
      (Ideal.div (Ideal.ofBits .f32 1073741824#32 * FloatOps.sitofp (F := Ideal) .f32 (BitVec.ofNat 32 (d.val - 64))) (Ideal.ofBits .f32 1124073472#32)))

/-- A head's columns with the halves exchanged, the new first half negated. -/
def turned (x : Fin 128 → EReal) (d : Fin 128) : EReal :=
  if h : d.val < 64 then - x ⟨d.val + 64, by omega⟩ else x ⟨d.val - 64, by omega⟩

/-- A head's row turned by the angles of position `p`. -/
def rope (x : Fin 128 → EReal) (p : Fin 2048) (d : Fin 128) : EReal :=
  x d * Ideal.cos (angle p d) + turned x d * Ideal.sin (angle p d)

/-- The row of position `k` in the batch that row `r` belongs to. -/
def brow (r : Fin 8192) (k : Fin 2048) : Fin 8192 := ⟨r.val / 2048 * 2048 + k.val, by omega⟩

/-- The position of row `r` in its batch. -/
def pos (r : Fin 8192) : Fin 2048 := ⟨r.val % 2048, by omega⟩

/-- Query column `d` of half `t`, in the head that result column `j` lies in. -/
def qcol (j : Fin 1024) (t : Fin 2) (d : Fin 128) : Fin 10240 := ⟨6144 + (j.val / 256 * 256 + (t.val * 128 + d.val)), by omega⟩

/-- Key column `d` of half `t`, in that head. -/
def kcol (j : Fin 1024) (t : Fin 2) (d : Fin 128) : Fin 10240 := ⟨7168 + (j.val / 256 * 256 + (t.val * 128 + d.val)), by omega⟩

/-- Value column `e` of that head. -/
def vcol (j : Fin 1024) (e : Fin 256) : Fin 10240 := ⟨8192 + (j.val / 256 * 256 + e.val), by omega⟩

variable (x : (⟨2, ![8192, 10240]⟩ : Shape).Idx → EReal) (q1 k1 q2 k2 : (⟨1, ![128]⟩ : Shape).Idx → EReal) (g : (⟨1, ![256]⟩ : Shape).Idx → EReal)

/-- The logit of row `r` against position `k`: the product of turned query and turned key, scaled, for the positions up to
the end of the row's chunk of sixty-four; minus infinity for the later ones. -/
def logit (t : Fin 2) (r : Fin 8192) (j : Fin 1024) (k : Fin 2048) : EReal :=
  if k.val / 64 ≤ (pos r).val / 64 then
    (∑ d : Fin 128, rope (fun d => x (ix2 r (qcol j t d))) (pos r) d * rope (fun d => x (ix2 (brow r k) (kcol j t d))) k d)
      * Ideal.ofBits .f32 0x3DB504F3#32
  else ⊥

/-- The share of the second attention map that is taken from the first. -/
def lam : EReal :=
  Ideal.exp (∑ d : Fin 128, q1 (ix1 d) * k1 (ix1 d)) - Ideal.exp (∑ d : Fin 128, q2 (ix1 d) * k2 (ix1 d)) + Ideal.ofBits .f32 0x3E4CCCCD#32

/-- The weight of position `k`: the first softmax map less `lam` times the second. -/
def weight (r : Fin 8192) (j : Fin 1024) (k : Fin 2048) : EReal :=
  Softmax.weight (logit x 0 r j) k - lam q1 k1 q2 k2 * Softmax.weight (logit x 1 r j) k

/-- Column `e` of the head's values under these weights. -/
def mix (r : Fin 8192) (j : Fin 1024) (e : Fin 256) : EReal :=
  ∑ k : Fin 2048, weight x q1 k1 q2 k2 r j k * x (ix2 (brow r k) (vcol j e))

/-- A head's row over its root mean square, times the gain `w`, times what the second map leaves. -/
def normed (o : Fin 256 → EReal) (w : EReal) (e : Fin 256) : EReal :=
  o e * Ideal.rsqrt (Ideal.div (∑ e : Fin 256, o e * o e) (Ideal.ofBits .f32 1132462080#32) + Ideal.ofBits .f32 925353388#32)
    * w * Ideal.ofBits .f32 1061997773#32

/-- The differential attention. -/
def diff : (⟨2, ![8192, 1024]⟩ : Shape).Idx → EReal := fun i =>
  have e : Fin 256 := ⟨(i 1).val % 256, by omega⟩
  normed (mix x q1 k1 q2 k2 (i 0) (i 1)) (g (ix1 e)) e

/-- The products of a turned row: the other half's entry against the sine with the sign in it, as a sum of the two. -/
theorem rope_eq (y : Fin 128 → EReal) (p : Fin 2048) (d : Fin 128) :
    y d * Ideal.cos (angle p d) + y ⟨(d.val + 128 - 64) % 128, by omega⟩ * (Ideal.sin (angle p d) * (if d.val < 64 then -1 else 1)) = rope y p d := by
  unfold rope turned
  by_cases h : d.val < 64
  · have e : (⟨(d.val + 128 - 64) % 128, by omega⟩ : Fin 128) = ⟨d.val + 64, by omega⟩ := Fin.ext (by simp only; omega)
    rw [e, dif_pos h, if_pos h, mul_neg (α := EReal), mul_one (M := EReal), EReal.neg_mul, mul_neg (α := EReal)]
  · have e : (⟨(d.val + 128 - 64) % 128, by omega⟩ : Fin 128) = ⟨d.val - 64, by omega⟩ := Fin.ext (by simp only; omega)
    rw [e, dif_neg h, if_neg h, mul_one (M := EReal)]

end Cert.Differential

end
-- ==== Proof.DiffTables.lean ====
/- The differential attention: what the kernel's host line leaves in the tables its windows read. -/
module

public import proofs.«01_k».proof.Proof.Gen.DiffIdeal.Value
public import Idealize.ShloMosaic.Lib.Pipeline.ValueKit
public import Idealize.ShloMosaic.Lib.Pointwise
public import Idealize.ShloMosaic.Lib.StableHlo.ReadAt
public import proofs.«01_k».proof.Proof.DiffSpec

@[expose] public section

set_option maxRecDepth 16384

noncomputable section

namespace Cert.DiffIdeal.Attend

open Cert.DiffIdeal Cert.DiffIdeal.Gen Idealize.ShloMosaic Idealize.ShloMosaic.TcCoe Idealize.SL.Sem
open Cert.Differential (angle)

variable (m : (ℓ : Loc nD τ sig) → Buf (Elt Ideal) ℓ)

/-- The first table holds the cosines of the angles. -/
theorem cos_at (c : Dev nD) (k : Fin 2048) (d : Fin 128) :
    (V m c main_v23 : FVec Ideal S2048x128 .f32) (ix2 k d) = Ideal.cos (angle k d) := by
  unfold V
  after_reads_at
  after_reads_at
  rfl

/-- The sign column `d` takes when its halves are exchanged. -/
theorem sign (d : Fin 128) :
    Scalar.select (IntOp.cmpi CmpIPredicate.slt (BitVec.ofNat 32 d.val) 64#32) (Ideal.ofBits FTy.f32 3212836864#32) (1 : EReal)
      = if d.val < 64 then -1 else 1 := by
  rw [show (64#32 : BitVec 32) = BitVec.ofNat 32 64 from rfl, WordCmp.cmpi_slt_ofNat (by omega) (by omega)]
  have h : Ideal.ofBits FTy.f32 3212836864#32 = (-1 : EReal) := by
    simp [Ideal.ofBits, Ideal.ieee]
    rw [← EReal.coe_mul]
    norm_num
  rw [h]
  by_cases h : d.val < 64 <;> simp [h, Scalar.select]

/-- The second table holds the sines of the angles, each with its column's sign. -/
theorem sin_at (c : Dev nD) (k : Fin 2048) (d : Fin 128) :
    (V m c main_v27 : FVec Ideal S2048x128 .f32) (ix2 k d) = Ideal.sin (angle k d) * (if d.val < 64 then -1 else 1) := by
  rw [← sign d]
  unfold V
  after_reads_at
  simp only [id]
  after_reads_at
  rfl

/-- The four vectors, one under another. -/
theorem vecs_at (c : Dev nD) (d : Fin 128) :
    (V m c main_v32 : FVec Ideal S4x128 .f32) (ix2 0 d) = m ((c.tc : Thread nD τ).loc main_arg1) (ix1 d)
    ∧ (V m c main_v32 : FVec Ideal S4x128 .f32) (ix2 1 d) = m ((c.tc : Thread nD τ).loc main_arg2) (ix1 d)
    ∧ (V m c main_v32 : FVec Ideal S4x128 .f32) (ix2 2 d) = m ((c.tc : Thread nD τ).loc main_arg3) (ix1 d)
    ∧ (V m c main_v32 : FVec Ideal S4x128 .f32) (ix2 3 d) = m ((c.tc : Thread nD τ).loc main_arg4) (ix1 d) := by
  unfold V
  after_reads_simp
  dsimp only [Matrix.cons_val]
  simp only [StableHlo.unary_result']
  after_reads_simp
  refine ⟨?_, ?_, ?_, ?_⟩ <;> pointwise

/-- The gains as the kernel's window reads them, one row. -/
theorem gain_at (c : Dev nD) (z : Fin 1) (e : Fin 256) :
    (V m c main_v33 : FVec Ideal S1x256 .f32) (ix2 z e) = m ((c.tc : Thread nD τ).loc main_arg5) (ix1 e) := by
  obtain rfl : z = 0 := Subsingleton.elim _ _
  unfold V
  after_reads_at

end Cert.DiffIdeal.Attend

end
-- ==== Proof.DiffBlock.lean ====
/- The differential attention: what one grid point of the kernel computes, element by element. -/
module

public import proofs.«01_k».proof.Proof.Gen.DiffIdeal.Skeleton
public import Idealize.ShloMosaic.Lib.Pointwise
public import proofs.«01_k».proof.Proof.DiffSpec

@[expose] public section

set_option maxRecDepth 16384

noncomputable section

namespace Cert.DiffIdeal.Attend

open Cert.DiffIdeal Cert.DiffIdeal.Gen Idealize.ShloMosaic Idealize.ShloMosaic.TcCoe Idealize.SL.Sem
open Cert.Differential (normed)

/-! ## The chunks of sixty-four -/

/-- The quotient by sixty-four, rounded down, as the kernel spells it on words. -/
def chunk (w : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (1#32) (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32)
    (IntOp.divsi ArithUnit.vector w 64#32)

/-- It is the quotient, on the positions of a batch. -/
theorem chunk_ofNat : ∀ n : Fin 2048, chunk (BitVec.ofNat 32 n.val) = BitVec.ofNat 32 (n.val / 64) := by
  decide +kernel

/-- Chunks compare as numbers. -/
theorem le_ofNat : ∀ a b : Fin 32,
    IntOp.cmpi CmpIPredicate.sle (BitVec.ofNat 32 a.val) (BitVec.ofNat 32 b.val) = BitVec.ofBool (decide (a.val ≤ b.val)) := by
  decide +kernel

/-- Row `r` of the block at coordinate `i`, as the kernel numbers it. -/
theorem row_ofNat : ∀ (i : Fin 8) (r : Fin 256),
    IntOp.addi (Scalar.muli (BitVec.ofNat 32 i.val) 256#32) (BitVec.ofNat 32 r.val) = BitVec.ofNat 32 (i.val * 256 + r.val) := by
  decide +kernel

/-- The position in its batch of row `r` of a grid point's block. -/
def bpos (i : grid0.Coords) (r : Fin 256) : Fin 2048 := ⟨(i 2).val * 256 + r.val, by have := (i 2).isLt; change (i 2).val < 8 at this; omega⟩

/-- The kernel's mask: the positions up to the end of the row's chunk. -/
theorem mask_at (i : grid0.Coords) (r : Fin 256) (k : Fin 2048) :
    (k0_pay10 (k0_pay7 i) (64#32) (k0_pay8 i) (k0_pay9 i) 1#32) (ix2 r k)
      = BitVec.ofBool (decide (k.val / 64 ≤ (bpos i r).val / 64)) := by
  pointwise [k0_pay10, k0_pay7, k0_pay8, k0_pay9]
  rw [show Scalar.extui (Scalar.cmpi CmpIPredicate.sgt 64#32 0#32) = 1#32 from rfl]
  change IntOp.cmpi CmpIPredicate.sle (chunk (BitVec.ofNat 32 k.val))
    (chunk (IntOp.addi (Scalar.muli (BitVec.ofNat 32 (i 2).val) 256#32) (BitVec.ofNat 32 r.val))) = _
  have h := row_ofNat (i 2) r
  rw [h, chunk_ofNat k, show (i 2).val * 256 + r.val = (bpos i r).val from rfl, chunk_ofNat (bpos i r)]
  exact le_ofNat ⟨k.val / 64, by omega⟩ ⟨(bpos i r).val / 64, by omega⟩

/-! ## The block's queries, logits and weights -/

/-- Entry `d` of row `r` of the turned queries. -/
theorem query_at (C S : FVec Ideal S256x128 .f32) (q : FVec Ideal S256x128 .bf16) (r : Fin 256) (d : Fin 128) :
    k0_pay11 (F := Ideal) (k0_pay4 (F := Ideal) C) (k0_pay5 (F := Ideal) S) q (ix2 r d)
      = q (ix2 r d) * C (ix2 r d) + q (ix2 r ⟨(d.val + 128 - 64) % 128, by omega⟩) * S (ix2 r d) := by
  pointwise [k0_pay11, k0_pay4, k0_pay5]

/-- Entry `d` of row `k` of the turned keys. -/
theorem key_at (C S : Vec Ideal S2048x128 .f32) (x : Vec Ideal S2048x128 .bf16) (z : Fin 1) (k : Fin 2048) (d : Fin 128) :
    k0_pay2 x C S (ix3 z k d) = x (ix2 k d) * C (ix2 k d) + x (ix2 k ⟨(d.val + 128 - 64) % 128, by omega⟩) * S (ix2 k d) := by
  obtain rfl : z = 0 := Subsingleton.elim _ _
  pointwise [k0_pay2]

/-- The same of the second half. -/
theorem key_at' (C S : Vec Ideal S2048x128 .f32) (x : Vec Ideal S2048x128 .bf16) (z : Fin 1) (k : Fin 2048) (d : Fin 128) :
    k0_pay3 x C S (ix3 z k d) = x (ix2 k d) * C (ix2 k d) + x (ix2 k ⟨(d.val + 128 - 64) % 128, by omega⟩) * S (ix2 k d) := by
  obtain rfl : z = 0 := Subsingleton.elim _ _
  pointwise [k0_pay3]

/-- The share of the second map, from the four vectors. -/
def blam (L : Vec Ideal S4x128 .f32) : EReal :=
  Ideal.exp (∑ d : Fin 128, L (ix2 0 d) * L (ix2 1 d)) - Ideal.exp (∑ d : Fin 128, L (ix2 2 d) * L (ix2 3 d)) + Ideal.ofBits .f32 0x3E4CCCCD#32

theorem lam_at (L : Vec Ideal S4x128 .f32) : k0_pay6 L (ix2 0 0) = blam L := by
  pointwise [k0_pay6, blam]

/-- The masked logits of one half, of a block's rows against all positions. -/
def masked (b : IVec S256x2048 1) (q : FVec Ideal S256x128 .bf16) (k : FVec Ideal S1x2048x128 .bf16) : FVec Ideal S256x2048 .f32 :=
  select b (mulf (matmul (φ₂ := .bf16) dot_S256x128_S2048x128_S256x2048_1_1_0_0_n_n none q (shapeCast S2048x128 k shapeCasts_S1x2048x128_S2048x128)
    (constant S256x2048 .f32 0x00000000#32)) (broadcast S256x2048 (Scalar.ofBits .f32 0x3DB504F3#32))) (broadcast S256x2048 (Named.named κ "mask" 0xF149F2CA#32))

/-- The softmax of every row. -/
def soft (s : FVec Ideal S256x2048 .f32) : FVec Ideal S256x2048 .f32 :=
  have e : FVec Ideal S256x2048 .f32 := exp (subf s (broadcastTo S256x2048 (shapeCast S256x1 (multiReduction .maximumf [1] S256 s 0xFF800000#32 reduces_S256x2048_S256 (.inl rfl) rfl) shapeCasts_S256_S256x1) broadcasts_S256x1_S256x2048))
  divf e (broadcastTo S256x2048 (shapeCast S256x1 (multiReduction .add [1] S256 e 0x00000000#32 reduces_S256x2048_S256 (.inl rfl) rfl) shapeCasts_S256_S256x1) broadcasts_S256x1_S256x2048)

theorem weights_eq (v7 v10 : FVec Ideal S256x128 .f32) (v27 : FVec Ideal S1x1 .f32) (v80 : IVec S256x2048 1)
    (v87 : FVec Ideal S256x128 .bf16) (v88 : Vec Ideal S1x2048x128 .bf16) (v104 : Vec Ideal S256x128 .bf16) (v111 : Vec Ideal S1x2048x128 .bf16) :
    k0_pay12 v7 v10 v27 v80 v87 v88 v104 v111 = subf (soft (masked v80 v87 v88)) (mulf (broadcastTo S256x2048 v27 broadcasts_S1x1_S256x2048)
      (soft (masked v80 (k0_pay11 v7 v10 v104) v111))) := by
  unfold k0_pay12 soft masked k0_pay11
  rfl

theorem masked_at (b : IVec S256x2048 1) (q : FVec Ideal S256x128 .bf16) (k : FVec Ideal S1x2048x128 .bf16) (r : Fin 256) (j : Fin 2048) :
    masked b q k (ix2 r j) = Scalar.select (b (ix2 r j)) ((∑ d : Fin 128, q (ix2 r d) * k (ix3 0 j d)) * Ideal.ofBits .f32 0x3DB504F3#32) ⊥ := by
  unfold masked
  pointwise
  rw [IdealRules.named_const.ideal_named_scalar _ _ _ _ rfl]

theorem soft_at (s : FVec Ideal S256x2048 .f32) (r : Fin 256) (k : Fin 2048) :
    soft s (ix2 r k) = Softmax.weight (fun k => s (ix2 r k)) k := by
  unfold soft
  pointwise [Softmax.weight, Softmax.expo, Softmax.top]
  rw [Softmax.negInf]

/-- The logit of row `r` of a block against position `k`, from the half's queries, the tables and the turned keys. -/
def blogit (i : grid0.Coords) (C S : FVec Ideal S256x128 .f32) (q : FVec Ideal S256x128 .bf16) (K : FVec Ideal S1x2048x128 .bf16)
    (r : Fin 256) (k : Fin 2048) : EReal :=
  if k.val / 64 ≤ (bpos i r).val / 64 then
    (∑ d : Fin 128, (q (ix2 r d) * C (ix2 r d) + q (ix2 r ⟨(d.val + 128 - 64) % 128, by omega⟩) * S (ix2 r d)) * K (ix3 0 k d))
      * Ideal.ofBits .f32 0x3DB504F3#32
  else ⊥

theorem blogit_at (i : grid0.Coords) (C S : FVec Ideal S256x128 .f32) (q : FVec Ideal S256x128 .bf16) (K : FVec Ideal S1x2048x128 .bf16)
    (r : Fin 256) (k : Fin 2048) :
    masked (k0_pay10 (k0_pay7 i) (64#32) (k0_pay8 i) (k0_pay9 i) 1#32)
      (k0_pay11 (F := Ideal) (k0_pay4 (F := Ideal) C) (k0_pay5 (F := Ideal) S) q) K (ix2 r k) = blogit i C S q K r k := by
  rw [masked_at, mask_at]
  simp only [query_at]
  unfold blogit
  by_cases h : k.val / 64 ≤ (bpos i r).val / 64 <;> simp [h, Scalar.select]

/-- The weighted values, normed. -/
theorem normed_at (w : FVec Ideal S256x2048 .f32) (v : Vec Ideal S2048x256 .bf16) (g : Vec Ideal S1x256 .f32) (r e : Fin 256) :
    k0_pay1 (F := Ideal) w v g (ix2 r e) = normed (fun e => ∑ k : Fin 2048, w (ix2 r k) * v (ix2 k e)) (g (ix2 0 e)) e := by
  pointwise [k0_pay1, normed]

/-- What a grid point leaves at row `r` and column `e` of its result block. -/
theorem body_at (i : grid0.Coords) (C S : FVec Ideal S256x128 .f32) (L : Vec Ideal S4x128 .f32) (q0 q1 : FVec Ideal S256x128 .bf16)
    (K0 K1 : FVec Ideal S1x2048x128 .bf16) (v : Vec Ideal S2048x256 .bf16) (g : Vec Ideal S1x256 .f32) (r e : Fin 256) :
    k0_pay1 (F := Ideal) (k0_pay12 (F := Ideal) (k0_pay4 (F := Ideal) C) (k0_pay5 (F := Ideal) S) (k0_pay6 (F := Ideal) L)
      (k0_pay10 (k0_pay7 i) (64#32) (k0_pay8 i) (k0_pay9 i) 1#32)
      (k0_pay11 (F := Ideal) (k0_pay4 (F := Ideal) C) (k0_pay5 (F := Ideal) S) q0) K0 q1 K1) v g (ix2 r e)
      = normed (fun e => ∑ k : Fin 2048, (Softmax.weight (blogit i C S q0 K0 r) k - blam L * Softmax.weight (blogit i C S q1 K1 r) k) * v (ix2 k e))
        (g (ix2 0 e)) e := by
  rw [normed_at]
  congr 1
  funext e
  refine Cert.Sums.sum_congr_ereal fun k => ?_
  rw [weights_eq]
  have h : ∀ (a b : FVec Ideal S256x2048 .f32) (l : FVec Ideal S1x1 .f32),
      subf a (mulf (broadcastTo S256x2048 l broadcasts_S1x1_S256x2048) b) (ix2 r k) = a (ix2 r k) - l (ix2 0 0) * b (ix2 r k) := by
    intro a b l
    pointwise
  rw [h, soft_at, soft_at, lam_at]
  simp only [blogit_at]

end Cert.DiffIdeal.Attend

end
-- ==== Proof.Diff.lean ====
/- The differential attention: the value of every element of the kernel's result. -/
module

public import proofs.«01_k».proof.Proof.Gen.DiffIdeal.Value
public import Idealize.ShloMosaic.Lib.Pipeline.ValueKit
public import Idealize.ShloMosaic.Lib.Pipeline.ReadBack
public import Idealize.ShloMosaic.Lib.Pointwise
public import proofs.«01_k».proof.Proof.DiffTables
public import proofs.«01_k».proof.Proof.DiffBlock

@[expose] public section

set_option maxRecDepth 16384

noncomputable section

namespace Cert.DiffIdeal.Attend

open Cert.DiffIdeal Cert.DiffIdeal.Gen Idealize.ShloMosaic Idealize.ShloMosaic.TcCoe Idealize.SL.Sem
open Cert.Differential (angle rope rope_eq normed diff mix lam logit weight brow pos qcol kcol vcol)

variable (m : (ℓ : Loc nD τ sig) → Buf (Elt Ideal) ℓ)

/-! ## The windows' blocks -/

/-- Where each window stands at a grid point: the batch, the head and the block of rows count the point out. -/
theorem idx : ∀ t : Fin cfg0.N,
    (win0_0.index t 0 = t.val / 32 * 8 + t.val % 8 ∧ win0_0.index t 1 = 24 + t.val / 8 % 4)
    ∧ (win0_1.index t 0 = t.val / 32 ∧ win0_1.index t 1 = 28 + t.val / 8 % 4)
    ∧ (win0_2.index t 0 = t.val / 32 ∧ win0_2.index t 1 = 32 + t.val / 8 % 4)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = t.val / 32 * 8 + t.val % 8 ∧ win0_7.index t 1 = t.val / 8 % 4)
    ∧ (grid0.coords t 2).val = t.val % 8 :=
  (by decide +kernel : ∀ t : Fin grid0.N, _)

/-- Where the tables' rows of a grid point's block begin. -/
theorem off : ∀ (t : Fin cfg0.N) (a : Fin 2), k0_off1 (grid0.coords t) a = if a = 0 then t.val % 8 * 256 else 0 :=
  (by decide +kernel : ∀ (t : Fin grid0.N) (a : Fin 2), _)

theorem points : cfg0.N = 128 := by decide +kernel

/-- The row of the whole that row `r` of point `t`'s block is. -/
def prow (t : Fin cfg0.N) (r : Fin 256) : Fin 8192 :=
  ⟨(t.val / 32 * 8 + t.val % 8) * 256 + r.val, by have := t.isLt; have := points; omega⟩

/-- The result column that column `e` of point `t`'s block is. -/
def pcol (t : Fin cfg0.N) (e : Fin 256) : Fin 1024 := ⟨t.val / 8 % 4 * 256 + e.val, by omega⟩

/-- The row of the whole at position `k` of point `t`'s batch. -/
def krow (t : Fin cfg0.N) (k : Fin 2048) : Fin 8192 :=
  ⟨t.val / 32 * 2048 + k.val, by have := t.isLt; have := points; omega⟩

theorem queries (c : Dev nD) (t : Fin cfg0.N) (r e : Fin 256) :
    (iblk m c 0 t : FVec Ideal S256x256 .bf16) (ix2 r e) = (V m c main_arg0 : FVec Ideal S8192x10240 .bf16) (ix2 (prow t r) ⟨6144 + (t.val / 8 % 4 * 256 + e.val), by omega⟩) := by
  obtain ⟨⟨h0, h1⟩, _⟩ := idx t
  have e0 : (win0_0.blk t).view.emb (ix2 r e) = ix2 (prow t r) ⟨6144 + (t.val / 8 % 4 * 256 + e.val), by omega⟩ := by
    funext a; apply Fin.ext
    match a with
    | ⟨0, _⟩ => blk_simp [h0, prow]
    | ⟨1, _⟩ => blk_simp [h1] <;> (show (24 + t.val / 8 % 4) * 256 + e.val = 6144 + (t.val / 8 % 4 * 256 + e.val); omega)
  blk_simp [iblk]
  rw [e0]

theorem keys (c : Dev nD) (t : Fin cfg0.N) (k : Fin 2048) (e : Fin 256) :
    (iblk m c 1 t : FVec Ideal S2048x256 .bf16) (ix2 k e) = (V m c main_arg0 : FVec Ideal S8192x10240 .bf16) (ix2 (krow t k) ⟨7168 + (t.val / 8 % 4 * 256 + e.val), by omega⟩) := by
  obtain ⟨_, ⟨h0, h1⟩, _⟩ := idx t
  have e0 : (win0_1.blk t).view.emb (ix2 k e) = ix2 (krow t k) ⟨7168 + (t.val / 8 % 4 * 256 + e.val), by omega⟩ := by
    funext a; apply Fin.ext
    match a with
    | ⟨0, _⟩ => blk_simp [h0, krow]
    | ⟨1, _⟩ => blk_simp [h1] <;> (show (28 + t.val / 8 % 4) * 256 + e.val = 7168 + (t.val / 8 % 4 * 256 + e.val); omega)
  blk_simp [iblk]
  rw [e0]

theorem vals (c : Dev nD) (t : Fin cfg0.N) (k : Fin 2048) (e : Fin 256) :
    (iblk m c 2 t : FVec Ideal S2048x256 .bf16) (ix2 k e) = (V m c main_arg0 : FVec Ideal S8192x10240 .bf16) (ix2 (krow t k) ⟨8192 + (t.val / 8 % 4 * 256 + e.val), by omega⟩) := by
  obtain ⟨_, _, ⟨h0, h1⟩, _⟩ := idx t
  have e0 : (win0_2.blk t).view.emb (ix2 k e) = ix2 (krow t k) ⟨8192 + (t.val / 8 % 4 * 256 + e.val), by omega⟩ := by
    funext a; apply Fin.ext
    match a with
    | ⟨0, _⟩ => blk_simp [h0, krow]
    | ⟨1, _⟩ => blk_simp [h1] <;> (show (32 + t.val / 8 % 4) * 256 + e.val = 8192 + (t.val / 8 % 4 * 256 + e.val); omega)
  blk_simp [iblk]
  rw [e0]

theorem coss (c : Dev nD) (t : Fin cfg0.N) (k : Fin 2048) (d : Fin 128) :
    (iblk m c 3 t : FVec Ideal S2048x128 .f32) (ix2 k d) = Ideal.cos (angle k d) := by
  obtain ⟨_, _, _, ⟨h0, h1⟩, _⟩ := idx t
  have e0 : (win0_3.blk t).view.emb (ix2 k d) = ix2 k d := by
    funext a; apply Fin.ext
    match a with
    | ⟨0, _⟩ => blk_simp [h0]
    | ⟨1, _⟩ => blk_simp [h1]
  blk_simp [iblk]
  rw [e0]
  exact cos_at m c k d

theorem sins (c : Dev nD) (t : Fin cfg0.N) (k : Fin 2048) (d : Fin 128) :
    (iblk m c 4 t : FVec Ideal S2048x128 .f32) (ix2 k d) = Ideal.sin (angle k d) * (if d.val < 64 then -1 else 1) := by
  obtain ⟨_, _, _, _, ⟨h0, h1⟩, _⟩ := idx t
  have e0 : (win0_4.blk t).view.emb (ix2 k d) = ix2 k d := by
    funext a; apply Fin.ext
    match a with
    | ⟨0, _⟩ => blk_simp [h0]
    | ⟨1, _⟩ => blk_simp [h1]
  blk_simp [iblk]
  rw [e0]
  exact sin_at m c k d

theorem vecs (c : Dev nD) (t : Fin cfg0.N) (k : Fin 4) (d : Fin 128) :
    (iblk m c 5 t : FVec Ideal S4x128 .f32) (ix2 k d) = (V m c main_v32 : FVec Ideal S4x128 .f32) (ix2 k d) := by
  obtain ⟨_, _, _, _, _, ⟨h0, h1⟩, _⟩ := idx t
  have e0 : (win0_5.blk t).view.emb (ix2 k d) = ix2 k d := by
    funext a; apply Fin.ext
    match a with
    | ⟨0, _⟩ => blk_simp [h0]
    | ⟨1, _⟩ => blk_simp [h1]
  blk_simp [iblk]
  rw [e0]

theorem gains (c : Dev nD) (t : Fin cfg0.N) (z : Fin 1) (e : Fin 256) :
    (iblk m c 6 t : FVec Ideal S1x256 .f32) (ix2 z e) = m ((c.tc : Thread nD τ).loc main_arg5) (ix1 e) := by
  obtain ⟨_, _, _, _, _, _, ⟨h0, h1⟩, _⟩ := idx t
  have e0 : (win0_6.blk t).view.emb (ix2 z e) = ix2 z e := by
    funext a; apply Fin.ext
    match a with
    | ⟨0, _⟩ => blk_simp [h0]
    | ⟨1, _⟩ => blk_simp [h1]
  blk_simp [iblk]
  rw [e0]
  exact gain_at m c z e

/-! ## The turned keys that the scratch carries -/

/-- The turned key row of half `s` at position `k` of point `t`'s batch and head. -/
def turnedKey (X : S8192x10240.Idx → EReal) (t : Fin cfg0.N) (s : Fin 2) (k : Fin 2048) (d : Fin 128) : EReal :=
  rope (fun d => X (ix2 (krow t k) ⟨7168 + (t.val / 8 % 4 * 256 + (s.val * 128 + d.val)), by omega⟩)) k d

/-- The first half's keys, turned. -/
theorem piece0 (c : Dev nD) (t : Fin cfg0.N) (z : Fin 1) (k : Fin 2048) (d : Fin 128) :
    k0_pay2 (View.ld (iblk m c 1 t) (Rect.unit ![0, 0] ![2048, 128] inb_S2048x256_S2048x128_0_0)) (iblk m c 3 t) (iblk m c 4 t) (ix3 z k d)
      = turnedKey (V m c main_arg0) t 0 k d := by
  rw [key_at, coss, sins]
  have hk : ∀ d : Fin 128, View.ld (iblk m c 1 t) (Rect.unit ![0, 0] ![2048, 128] inb_S2048x256_S2048x128_0_0) (ix2 k d)
      = V m c main_arg0 (ix2 (krow t k) ⟨7168 + (t.val / 8 % 4 * 256 + (0 * 128 + d.val)), by omega⟩) := by
    intro d
    refine (View.ld_unit_apply_of _ _ _ _ _ (ix2 k ⟨0 * 128 + d.val, by omega⟩) fun a => ?_).trans (keys m c t k _)
    match a with
    | ⟨0, _⟩ => show k.val = 0 + k.val; omega
    | ⟨1, _⟩ => show 0 * 128 + d.val = 0 + d.val; omega
  rw [hk, hk]
  exact rope_eq (fun d => V m c main_arg0 (ix2 (krow t k) ⟨7168 + (t.val / 8 % 4 * 256 + (0 * 128 + d.val)), by omega⟩)) k d

/-- The second half's keys, turned. -/
theorem piece1 (c : Dev nD) (t : Fin cfg0.N) (z : Fin 1) (k : Fin 2048) (d : Fin 128) :
    k0_pay3 (View.ld (iblk m c 1 t) (Rect.unit ![0, 128] ![2048, 128] inb_S2048x256_S2048x128_0_128)) (iblk m c 3 t) (iblk m c 4 t) (ix3 z k d)
      = turnedKey (V m c main_arg0) t 1 k d := by
  rw [key_at', coss, sins]
  have hk : ∀ d : Fin 128, View.ld (iblk m c 1 t) (Rect.unit ![0, 128] ![2048, 128] inb_S2048x256_S2048x128_0_128) (ix2 k d)
      = V m c main_arg0 (ix2 (krow t k) ⟨7168 + (t.val / 8 % 4 * 256 + (1 * 128 + d.val)), by omega⟩) := by
    intro d
    refine (View.ld_unit_apply_of _ _ _ _ _ (ix2 k ⟨1 * 128 + d.val, by omega⟩) fun a => ?_).trans (keys m c t k _)
    match a with
    | ⟨0, _⟩ => show k.val = 0 + k.val; omega
    | ⟨1, _⟩ => show 1 * 128 + d.val = 128 + d.val; omega
  rw [hk, hk]
  exact rope_eq (fun d => V m c main_arg0 (ix2 (krow t k) ⟨7168 + (t.val / 8 % 4 * 256 + (1 * 128 + d.val)), by omega⟩)) k d

/-- Both halves, as the first block of a batch and head stores them. -/
theorem stored (c : Dev nD) (t : Fin cfg0.N) (s : Fin 2) (k : Fin 2048) (d : Fin 128) :
    View.canon [(⟨Rect.unit ![1, 0, 0] ![1, 2048, 128] inb_S2x2048x128_S1x2048x128_1_0_0,
        k0_pay3 (View.ld (iblk m c 1 t) (Rect.unit ![0, 128] ![2048, 128] inb_S2048x256_S2048x128_0_128)) (iblk m c 3 t) (iblk m c 4 t)⟩ : View.Piece (Elt Ideal) S2x2048x128 .bf16),
      ⟨Rect.unit ![0, 0, 0] ![1, 2048, 128] inb_S2x2048x128_S1x2048x128_0_0_0,
        k0_pay2 (View.ld (iblk m c 1 t) (Rect.unit ![0, 0] ![2048, 128] inb_S2048x256_S2048x128_0_0)) (iblk m c 3 t) (iblk m c 4 t)⟩] (ix3 s k d)
      = turnedKey (V m c main_arg0) t s k d := by
  canon_tiles x h
  case piece0 =>
    have hs : s = 1 := Fin.ext (by change s.val = 1 + (x 0).val at h0; change s.val = 1; omega)
    have hx : x = ix3 0 k d := by
      funext a; apply Fin.ext
      match a with
      | ⟨0, _⟩ => show (x 0).val = 0; omega
      | ⟨1, _⟩ => exact h1.symm
      | ⟨2, _⟩ => exact h2.symm
    rw [hs, hx]
    exact piece1 m c t 0 k d
  case piece1 =>
    have hs : s = 0 := Fin.ext (by change s.val = (x 0).val at h0; change s.val = 0; omega)
    have hx : x = ix3 0 k d := by
      funext a; apply Fin.ext
      match a with
      | ⟨0, _⟩ => show (x 0).val = 0; omega
      | ⟨1, _⟩ => exact h1.symm
      | ⟨2, _⟩ => exact h2.symm
    rw [hs, hx]
    exact piece0 m c t 0 k d

/-- The scratch holds the turned keys of the point's batch and head after every point. -/
theorem carried (c : Dev nD) : ∀ (n : ℕ) (hn : n < cfg0.N) (s : Fin 2) (k : Fin 2048) (d : Fin 128),
    (outsAt0 m c n hn).2 (ix3 s k d) = turnedKey (V m c main_arg0) ⟨n, hn⟩ s k d := by
  intro n
  induction n with
  | zero =>
    intro hn s k d
    have h := outsAt0_A m c ⟨0, hn⟩ rfl
    rw [show outsAt0 m c 0 hn = outsAt0 m c (⟨0, hn⟩ : Fin cfg0.N).val (⟨0, hn⟩ : Fin cfg0.N).isLt from rfl, h]
    frame_out
    exact stored m c ⟨0, hn⟩ s k d
  | succ n ih =>
    intro hn s k d
    by_cases h0 : (n + 1) % 8 = 0
    · have h := outsAt0_A m c ⟨n + 1, hn⟩ h0
      rw [show outsAt0 m c (n + 1) hn = outsAt0 m c (⟨n + 1, hn⟩ : Fin cfg0.N).val (⟨n + 1, hn⟩ : Fin cfg0.N).isLt from rfl, h]
      frame_out
      exact stored m c ⟨n + 1, hn⟩ s k d
    · have h := outsAt0_B m c ⟨n + 1, hn⟩ h0
      have h2 : (outsAt0 m c (n + 1) hn).2 = (outsAt0 m c n (by omega)).2 := (congrArg Prod.snd h).trans rfl
      rw [h2, ih (by omega) s k d]
      unfold turnedKey
      have e1 : krow ⟨n, by omega⟩ k = krow ⟨n + 1, hn⟩ k := Fin.ext (by simp only [krow]; omega)
      have e2 : n / 8 % 4 = (n + 1) / 8 % 4 := by omega
      simp only [e1, e2]

/-! ## The result -/

/-- What the kernel's array shall be: the differential attention of the first argument, under the other five. -/
def attended (c : Dev nD) : S8192x1024.Idx → EReal :=
  diff (V m c main_arg0) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- Row `r` of the tables' block is the table's row at the row's position. -/
theorem table (X : FVec Ideal S2048x128 .f32) (t : Fin cfg0.N) (inb) (r : Fin 256) (d : Fin 128) :
    View.ld (Val := Elt Ideal) (e' := .f32) X (Rect.unit (s := S2048x128) (k0_off1 (grid0.coords t)) ![256, 128] inb) (ix2 r d) = X (ix2 (pos (prow t r)) d) := by
  refine View.ld_unit_apply_of _ _ _ _ _ (ix2 (pos (prow t r)) d) fun a => ?_
  rw [off t a]
  match a with
  | ⟨0, _⟩ =>
    show ((t.val / 32 * 8 + t.val % 8) * 256 + r.val) % 2048 = t.val % 8 * 256 + r.val
    omega
  | ⟨1, _⟩ => show d.val = 0 + d.val; omega

/-- A grid point's logits are the specification's, given that the block's queries and keys are. -/
theorem blogit_eq (X : S8192x10240.Idx → EReal) (t : Fin cfg0.N) (s : Fin 2) (C S : FVec Ideal S256x128 .f32)
    (q : FVec Ideal S256x128 .bf16) (K : FVec Ideal S1x2048x128 .bf16) (r e : Fin 256) (k : Fin 2048)
    (hC : ∀ d, C (ix2 r d) = Ideal.cos (angle (pos (prow t r)) d))
    (hS : ∀ d : Fin 128, S (ix2 r d) = Ideal.sin (angle (pos (prow t r)) d) * (if d.val < 64 then -1 else 1))
    (hq : ∀ d : Fin 128, q (ix2 r d) = X (ix2 (prow t r) ⟨6144 + (t.val / 8 % 4 * 256 + (s.val * 128 + d.val)), by omega⟩))
    (hK : ∀ k d, K (ix3 0 k d) = turnedKey X t s k d) :
    blogit (grid0.coords t) C S q K r k = logit X s (prow t r) (pcol t e) k := by
  have hp : bpos (grid0.coords t) r = pos (prow t r) := by
    obtain ⟨_, _, _, _, _, _, _, _, h⟩ := idx t
    refine Fin.ext ?_
    show (grid0.coords t 2).val * 256 + r.val = ((t.val / 32 * 8 + t.val % 8) * 256 + r.val) % 2048
    rw [h]; omega
  have hqc : ∀ d : Fin 128, (⟨6144 + (t.val / 8 % 4 * 256 + (s.val * 128 + d.val)), by omega⟩ : Fin 10240) = qcol (pcol t e) s d :=
    fun d => Fin.ext (by simp only [qcol, pcol]; omega)
  have hkc : ∀ d : Fin 128, (⟨7168 + (t.val / 8 % 4 * 256 + (s.val * 128 + d.val)), by omega⟩ : Fin 10240) = kcol (pcol t e) s d :=
    fun d => Fin.ext (by simp only [kcol, pcol]; omega)
  have hkr : ∀ k, krow t k = brow (prow t r) k := fun k => Fin.ext (by simp only [krow, brow, prow]; omega)
  have hquery : ∀ d : Fin 128, q (ix2 r d) * C (ix2 r d) + q (ix2 r ⟨(d.val + 128 - 64) % 128, by omega⟩) * S (ix2 r d)
      = rope (fun d => X (ix2 (prow t r) (qcol (pcol t e) s d))) (pos (prow t r)) d := by
    intro d
    rw [hC, hS, hq, hq, hqc, hqc]
    exact rope_eq (fun d => X (ix2 (prow t r) (qcol (pcol t e) s d))) (pos (prow t r)) d
  unfold blogit logit
  simp only [hquery, hK, hp, turnedKey, hkc, hkr]

/-- A grid point's result is the specification's, given that its scratch's halves hold the turned keys. -/
theorem point (c : Dev nD) (t : Fin cfg0.N) (K0 K1 : FVec Ideal S1x2048x128 .bf16) (inb) (r e : Fin 256)
    (h0 : ∀ k d, K0 (ix3 0 k d) = turnedKey (V m c main_arg0) t 0 k d) (h1 : ∀ k d, K1 (ix3 0 k d) = turnedKey (V m c main_arg0) t 1 k d) :
    normed (fun e => ∑ k : Fin 2048,
        (Softmax.weight (blogit (grid0.coords t) (View.ld (iblk m c 3 t) (Rect.unit (s := S2048x128) (k0_off1 (grid0.coords t)) ![256, 128] inb))
            (View.ld (iblk m c 4 t) (Rect.unit (s := S2048x128) (k0_off1 (grid0.coords t)) ![256, 128] inb))
            (View.ld (iblk m c 0 t) (Rect.unit ![0, 0] ![256, 128] inb_S256x256_S256x128_0_0)) K0 r) k
          - blam (iblk m c 5 t) * Softmax.weight (blogit (grid0.coords t) (View.ld (iblk m c 3 t) (Rect.unit (s := S2048x128) (k0_off1 (grid0.coords t)) ![256, 128] inb))
            (View.ld (iblk m c 4 t) (Rect.unit (s := S2048x128) (k0_off1 (grid0.coords t)) ![256, 128] inb))
            (View.ld (iblk m c 0 t) (Rect.unit ![0, 128] ![256, 128] inb_S256x256_S256x128_0_128)) K1 r) k)
        * (iblk m c 2 t : FVec Ideal S2048x256 .bf16) (ix2 k e)) ((iblk m c 6 t : FVec Ideal S1x256 .f32) (ix2 0 e)) e
      = attended m c (ix2 (prow t r) (pcol t e)) := by
  have hC : ∀ d : Fin 128, View.ld (iblk m c 3 t) (Rect.unit (s := S2048x128) (k0_off1 (grid0.coords t)) ![256, 128] inb) (ix2 r d)
      = Ideal.cos (angle (pos (prow t r)) d) := fun d => (table (iblk m c 3 t) t inb r d).trans (coss m c t _ d)
  have hS : ∀ d : Fin 128, View.ld (iblk m c 4 t) (Rect.unit (s := S2048x128) (k0_off1 (grid0.coords t)) ![256, 128] inb) (ix2 r d)
      = Ideal.sin (angle (pos (prow t r)) d) * (if d.val < 64 then -1 else 1) :=
    fun d => (table (iblk m c 4 t) t inb r d).trans (sins m c t _ d)
  have hq0 : ∀ d : Fin 128, View.ld (iblk m c 0 t) (Rect.unit ![0, 0] ![256, 128] inb_S256x256_S256x128_0_0) (ix2 r d)
      = V m c main_arg0 (ix2 (prow t r) ⟨6144 + (t.val / 8 % 4 * 256 + ((0 : Fin 2).val * 128 + d.val)), by omega⟩) := by
    intro d
    refine (View.ld_unit_apply_of _ _ _ _ _ (ix2 r ⟨0 * 128 + d.val, by omega⟩) fun a => ?_).trans (queries m c t r _)
    match a with
    | ⟨0, _⟩ => show r.val = 0 + r.val; omega
    | ⟨1, _⟩ => show 0 * 128 + d.val = 0 + d.val; omega
  have hq1 : ∀ d : Fin 128, View.ld (iblk m c 0 t) (Rect.unit ![0, 128] ![256, 128] inb_S256x256_S256x128_0_128) (ix2 r d)
      = V m c main_arg0 (ix2 (prow t r) ⟨6144 + (t.val / 8 % 4 * 256 + ((1 : Fin 2).val * 128 + d.val)), by omega⟩) := by
    intro d
    refine (View.ld_unit_apply_of _ _ _ _ _ (ix2 r ⟨1 * 128 + d.val, by omega⟩) fun a => ?_).trans (queries m c t r _)
    match a with
    | ⟨0, _⟩ => show r.val = 0 + r.val; omega
    | ⟨1, _⟩ => show 1 * 128 + d.val = 128 + d.val; omega
  have hw0 : blogit (grid0.coords t) _ _ _ K0 r = logit (V m c main_arg0) 0 (prow t r) (pcol t e) := funext fun k => blogit_eq (V m c main_arg0) t 0 _ _ _ K0 r e k hC hS hq0 h0
  have hw1 : blogit (grid0.coords t) _ _ _ K1 r = logit (V m c main_arg0) 1 (prow t r) (pcol t e) := funext fun k => blogit_eq (V m c main_arg0) t 1 _ _ _ K1 r e k hC hS hq1 h1
  have hl : blam (iblk m c 5 t) = lam (m ((c.tc : Thread nD τ).loc main_arg1)) (m ((c.tc : Thread nD τ).loc main_arg2))
      (m ((c.tc : Thread nD τ).loc main_arg3)) (m ((c.tc : Thread nD τ).loc main_arg4)) := by
    unfold blam lam
    simp only [vecs, (vecs_at m c _).1, (vecs_at m c _).2.1, (vecs_at m c _).2.2.1, (vecs_at m c _).2.2.2]
  rw [hw0, hw1, hl, gains]
  have he : (⟨(pcol t e).val % 256, by omega⟩ : Fin 256) = e := Fin.ext (by simp only [pcol]; omega)
  have hd : attended m c (ix2 (prow t r) (pcol t e)) = normed (mix (V m c main_arg0) (m ((c.tc : Thread nD τ).loc main_arg1))
      (m ((c.tc : Thread nD τ).loc main_arg2)) (m ((c.tc : Thread nD τ).loc main_arg3)) (m ((c.tc : Thread nD τ).loc main_arg4)) (prow t r) (pcol t e))
      (m ((c.tc : Thread nD τ).loc main_arg5) (ix1 ⟨(pcol t e).val % 256, by omega⟩)) ⟨(pcol t e).val % 256, by omega⟩ := rfl
  rw [hd, he]
  congr 1
  funext e'
  unfold mix
  refine Cert.Sums.sum_congr_ereal fun k => ?_
  rw [vals]
  have hvr : krow t k = brow (prow t r) k := Fin.ext (by simp only [krow, brow, prow]; omega)
  have hvc : (⟨8192 + (t.val / 8 % 4 * 256 + e'.val), by omega⟩ : Fin 10240) = vcol (pcol t e) e' :=
    Fin.ext (by simp only [vcol, pcol]; omega)
  rw [hvr, hvc]
  rfl

/-- A half of the scratch. -/
theorem half (X : FVec Ideal S2x2048x128 .bf16) (s : Fin 2) (inb) (z : Fin 1) (k : Fin 2048) (d : Fin 128) :
    View.ld (Val := Elt Ideal) (e' := .bf16) X (Rect.unit (s := S2x2048x128) ![s.val, 0, 0] ![1, 2048, 128] inb) (ix3 z k d) = X (ix3 s k d) := by
  refine View.ld_unit_apply_of _ _ _ _ _ (ix3 s k d) fun a => ?_
  match a with
  | ⟨0, _⟩ => show s.val = s.val + z.val; omega
  | ⟨1, _⟩ => show k.val = 0 + k.val; omega
  | ⟨2, _⟩ => show d.val = 0 + d.val; omega

/-- The block that a grid point leaves. -/
theorem block (c : Dev nD) (t : Fin cfg0.N) (r e : Fin 256) :
    (outsAt0 m c t.val t.isLt).1 (ix2 r e) = attended m c (ix2 (prow t r) (pcol t e)) := by
  by_cases h0 : t.val % 8 = 0
  · rw [outsAt0_A m c t h0]
    frame_out
    refine (body_at _ _ _ _ _ _ _ _ _ _ _ _).trans (point m c t _ _ _ r e ?_ ?_)
    · intro k d
      rw [View.readCov_eq_canon']
      exact (half _ 0 inb_S2x2048x128_S1x2048x128_0_0_0 0 k d).trans (stored m c t 0 k d)
    · intro k d
      rw [View.readCov_eq_canon']
      exact (half _ 1 inb_S2x2048x128_S1x2048x128_1_0_0 0 k d).trans (stored m c t 1 k d)
  · have h := outsAt0_B m c t h0
    rw [h]
    frame_out
    simp only [read_unread_whole]
    have hK : ∀ s k d, (outsAt0 m c (t.val - 1) (by have := t.isLt; omega)).2 (ix3 s k d) = turnedKey (V m c main_arg0) t s k d := by
      intro s k d
      rw [carried m c (t.val - 1) _ s k d]
      unfold turnedKey
      have e1 : krow ⟨t.val - 1, by have := t.isLt; omega⟩ k = krow t k := Fin.ext (by simp only [krow]; omega)
      have e2 : (t.val - 1) / 8 % 4 = t.val / 8 % 4 := by omega
      simp only [e1, e2]
    refine (body_at _ _ _ _ _ _ _ _ _ _ _ _).trans (point m c t _ _ _ r e ?_ ?_)
    · intro k d
      exact (half _ 0 inb_S2x2048x128_S1x2048x128_0_0_0 0 k d).trans (hK 0 k d)
    · intro k d
      exact (half _ 1 inb_S2x2048x128_S1x2048x128_1_0_0 0 k d).trans (hK 1 k d)

/-- The kernel's result array is the differential attention of its arguments. -/
theorem final (c : Dev nD) : (dats m 0 c).arrAt 7 (cfgs 0).N = attended m c := by
  refine (dats m 0 c).arrAt_eq_of_covers 7 _ (by decide +kernel) fun t hf y => ?_
  obtain ⟨_, _, _, _, _, _, _, ⟨h70, h71⟩, _⟩ := idx t
  blk_simp
  rw [after0_7]
  idx_vars y
  refine (block m c t y0 y1).trans (congrArg _ ?_)
  funext a; apply Fin.ext
  match a with
  | ⟨0, _⟩ => blk_simp [h70, prow]
  | ⟨1, _⟩ => blk_simp [h71, pcol]

/-- The kernel's run: the result array ends at the differential attention of the arguments, which stay as they were. -/
theorem run (ρ : Dev nD → PrngReg) :
    θ_run defs (onTc (τ := τ) (main (F := Ideal))) ⟨m, fun _ => 0, ρ⟩ fun r => ∀ c : Dev nD,
      r.2.mem ((c.tc : Thread nD τ).loc main_v34)
          = diff (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(Value.post7 m r h c).trans ((final m c).trans ?_),
      Value.kept_main_arg0 m r h c, Value.kept_main_arg1 m r h c, Value.kept_main_arg2 m r h c,
      Value.kept_main_arg3 m r h c, Value.kept_main_arg4 m r h c, Value.kept_main_arg5 m r h c⟩) (run_main m ρ)
  unfold attended
  rw [V_main_arg0 m c]

end Cert.DiffIdeal.Attend

end
-- ==== Proof.DiffRef.lean ====
/- The differential attention: what the reference computes, stage by stage. -/
module

public import proofs.«01_k».proof.Proof.DiffSpec
public import proofs.«01_k».proof.Proof.Gen.DiffRefIdeal.Run
public import Idealize.ShloMosaic.Lib.Tactic.CleanTypes
public import Idealize.ShloMosaic.Lib.Pointwise

@[expose] public section

set_option maxRecDepth 16384

noncomputable section

namespace Cert.DiffRefIdeal.Attend

open Cert.DiffRefIdeal Cert.DiffRefIdeal.Gen Idealize.ShloMosaic Idealize.ShloMosaic.TcCoe Idealize.SL.Sem
open Cert.Differential (angle turned rope normed diff mix lam logit weight brow pos qcol kcol vcol)

/-! ## The angles and the turning -/

/-- The angles of the first half of the columns, at every position. -/
def angles : FVec Ideal S2048x64 .f32 :=
  mulf (broadcastInDim S2048x64 ![0, 1] bcast_S2048x1_S2048x64_0_1 (broadcastInDim S2048x1 ![0] bcast_S2048_S2048x1_0 (sitofp .f32 (iotaInDim S2048 32 0)))) (broadcastInDim S2048x64 ![0, 1] bcast_S1x64_S2048x64_0_1 (broadcastInDim S1x64 ![1] bcast_S64_S1x64_1 (Host.divf (broadcastInDim S64 ![] bcast_S_S64 (constant S_ .f32 0x3F800000#32)) (Host.powf (broadcastInDim S64 ![] bcast_S_S64 (constant S_ .f32 0x461C4000#32)) (Host.divf (addf (broadcastInDim S64 ![] bcast_S_S64 (constant S_ .f32 0x00000000#32)) (mulf (broadcastInDim S64 ![] bcast_S_S64 (constant S_ .f32 0x40000000#32)) (sitofp .f32 (iotaInDim S64 32 0)))) (broadcastInDim S64 ![] bcast_S_S64 (constant S_ .f32 0x43000000#32)))))))

/-- Of all the columns. -/
def allAngles (a : FVec Ideal S2048x64 .f32) : FVec Ideal S2048x128 .f32 :=
  concatenate S2048x128 1 [⟨S2048x64, a⟩, ⟨S2048x64, a⟩] concatenates_S2048x64_S2048x64_S2048x128_d1

theorem angles_at (k : Fin 2048) (d : Fin 128) : allAngles angles (ix2 k d) = angle k d := by
  unfold allAngles angles
  clean_types
  pointwise
  rfl

/-- A head's columns with the halves exchanged and the new first half negated, of every row, head and half. -/
def exchanged (z : FVec Ideal S4x2048x4x2x128 .f32) : FVec Ideal S4x2048x4x2x128 .f32 :=
  concatenate S4x2048x4x2x128 4 [⟨S4x2048x4x2x64, (Host.negf (extractStridedSlice S4x2048x4x2x64 ![0, 0, 0, 0, 64] z slices_S4x2048x4x2x128_S4x2048x4x2x64_0_0_0_0_64))⟩, ⟨S4x2048x4x2x64, (extractStridedSlice S4x2048x4x2x64 ![0, 0, 0, 0, 0] z slices_S4x2048x4x2x128_S4x2048x4x2x64_0_0_0_0_0)⟩] concatenates_S4x2048x4x2x64_S4x2048x4x2x64_S4x2048x4x2x128_d4

/-- A table of positions and columns, over all batches, heads and halves. -/
def spread (w : FVec Ideal S2048x128 .f32) : FVec Ideal S4x2048x4x2x128 .f32 :=
  broadcastInDim S4x2048x4x2x128 ![0, 1, 2, 3, 4] bcast_S1x2048x1x1x128_S4x2048x4x2x128_0_1_2_3_4 (shapeCast S1x2048x1x1x128 w shapeCasts_S2048x128_S1x2048x1x1x128)

/-- Every head's rows turned by their positions' angles. -/
def roped (z : FVec Ideal S4x2048x4x2x128 .f32) (w : FVec Ideal S2048x128 .f32) : FVec Ideal S4x2048x4x2x128 .f32 :=
  addf (mulf z (spread (Host.cos w))) (mulf (exchanged z) (spread (Host.sin w)))

theorem exchanged_at (z : FVec Ideal S4x2048x4x2x128 .f32) (b : Fin 4) (p : Fin 2048) (h : Fin 4) (t : Fin 2) (d : Fin 128) :
    exchanged z (ix5 b p h t d) = turned (fun d => z (ix5 b p h t d)) d := by
  unfold exchanged turned
  clean_types
  pointwise
  simp only [Nat.add_comm 64 d.val]

theorem spread_at (w : FVec Ideal S2048x128 .f32) (b : Fin 4) (p : Fin 2048) (h : Fin 4) (t : Fin 2) (d : Fin 128) :
    spread w (ix5 b p h t d) = w (ix2 p d) := by
  unfold spread
  clean_types
  pointwise

theorem roped_at (z : FVec Ideal S4x2048x4x2x128 .f32) (w : FVec Ideal S2048x128 .f32) (b : Fin 4) (p : Fin 2048) (h : Fin 4) (t : Fin 2) (d : Fin 128) :
    roped z w (ix5 b p h t d) = z (ix5 b p h t d) * Ideal.cos (w (ix2 p d)) + turned (fun d => z (ix5 b p h t d)) d * Ideal.sin (w (ix2 p d)) := by
  have e : roped z w (ix5 b p h t d) = z (ix5 b p h t d) * spread (Host.cos w) (ix5 b p h t d) + exchanged z (ix5 b p h t d) * spread (Host.sin w) (ix5 b p h t d) := rfl
  rw [e, spread_at, spread_at, exchanged_at]
  rfl

/-! ## Queries, keys and values -/

/-- The 1024 columns from `6144` on, head by head and half by half. -/
def queries (x : FVec Ideal S8192x10240 .bf16) : FVec Ideal S4x2048x4x2x128 .f32 :=
  shapeCast S4x2048x4x2x128 (extractStridedSlice S4x2048x1024 ![0, 0, 6144] (shapeCast S4x2048x10240 (extf .f32 x bitsLt_bf16_f32) shapeCasts_S8192x10240_S4x2048x10240) slices_S4x2048x10240_S4x2048x1024_0_0_6144) shapeCasts_S4x2048x1024_S4x2048x4x2x128

/-- The 1024 columns from `7168` on. -/
def keys (x : FVec Ideal S8192x10240 .bf16) : FVec Ideal S4x2048x4x2x128 .f32 :=
  shapeCast S4x2048x4x2x128 (extractStridedSlice S4x2048x1024 ![0, 0, 7168] (shapeCast S4x2048x10240 (extf .f32 x bitsLt_bf16_f32) shapeCasts_S8192x10240_S4x2048x10240) slices_S4x2048x10240_S4x2048x1024_0_0_7168) shapeCasts_S4x2048x1024_S4x2048x4x2x128

/-- The 1024 columns from `8192` on, head by head. -/
def values (x : FVec Ideal S8192x10240 .bf16) : FVec Ideal S4x2048x4x256 .f32 :=
  shapeCast S4x2048x4x256 (extractStridedSlice S4x2048x1024 ![0, 0, 8192] (shapeCast S4x2048x10240 (extf .f32 x bitsLt_bf16_f32) shapeCasts_S8192x10240_S4x2048x10240) slices_S4x2048x10240_S4x2048x1024_0_0_8192) shapeCasts_S4x2048x1024_S4x2048x4x256

theorem queries_at (x : FVec Ideal S8192x10240 .bf16) (b : Fin 4) (p : Fin 2048) (h : Fin 4) (t : Fin 2) (d : Fin 128) :
    queries x (ix5 b p h t d) = x (ix2 ⟨b.val * 2048 + p.val, by omega⟩ ⟨6144 + (h.val * 256 + (t.val * 128 + d.val)), by omega⟩) := by
  unfold queries
  clean_types
  pointwise
  simp only [Nat.add_assoc]

theorem keys_at (x : FVec Ideal S8192x10240 .bf16) (b : Fin 4) (p : Fin 2048) (h : Fin 4) (t : Fin 2) (d : Fin 128) :
    keys x (ix5 b p h t d) = x (ix2 ⟨b.val * 2048 + p.val, by omega⟩ ⟨7168 + (h.val * 256 + (t.val * 128 + d.val)), by omega⟩) := by
  unfold keys
  clean_types
  pointwise
  simp only [Nat.add_assoc]

theorem values_at (x : FVec Ideal S8192x10240 .bf16) (b : Fin 4) (p : Fin 2048) (h : Fin 4) (d : Fin 256) :
    values x (ix4 b p h d) = x (ix2 ⟨b.val * 2048 + p.val, by omega⟩ ⟨8192 + (h.val * 256 + d.val), by omega⟩) := by
  unfold values
  clean_types
  pointwise

/-! ## The logits and their softmax -/

/-- The chunk of every position. -/
def chunks : IVec S2048 32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))

theorem chunks_at (k : Fin 2048) : chunks (ix1 k) = BitVec.ofNat 32 (k.val / 64) := by
  unfold chunks
  simp only [id]
  pointwise
  revert k
  decide +kernel

/-- Which positions a row attends to, from the chunks. -/
def allowed (u : IVec S2048 32) : IVec S2048x2048 1 :=
  cmpi .sle (broadcastInDim S2048x2048 ![0, 1] bcast_S1x2048_S2048x2048_0_1 (broadcastInDim S1x2048 ![1] bcast_S2048_S1x2048_1 u)) (broadcastInDim S2048x2048 ![0, 1] bcast_S2048x1_S2048x2048_0_1 (broadcastInDim S2048x1 ![0] bcast_S2048_S2048x1_0 u))

theorem allowed_at (u : IVec S2048 32) (p k : Fin 2048) : allowed u (ix2 p k) = IntOp.cmpi CmpIPredicate.sle (u (ix1 k)) (u (ix1 p)) := by
  unfold allowed
  pointwise

/-- The scaled products of queries and keys. -/
def products (q k : FVec Ideal S4x2048x4x2x128 .f32) : FVec Ideal S4x4x2x2048x2048 .f32 :=
  mulf (Host.dotGeneral dot_S4x2048x4x2x128_S4x2048x4x2x128_S4x4x2x2048x2048_4_4_1_1_023_023 none q k) (broadcastInDim S4x4x2x2048x2048 ![] bcast_S_S4x4x2x2048x2048 (constant S_ .f32 0x3DB504F3#32))

theorem products_at (q k : FVec Ideal S4x2048x4x2x128 .f32) (b h : Fin 4) (t : Fin 2) (p j : Fin 2048) :
    products q k (ix5 b h t p j) = (∑ d : Fin 128, q (ix5 b p h t d) * k (ix5 b j h t d)) * Ideal.ofBits .f32 0x3DB504F3#32 := by
  unfold products
  clean_types
  pointwise

/-- The logits: minus infinity where the mask forbids. -/
def logits (a : IVec S2048x2048 1) (s : FVec Ideal S4x4x2x2048x2048 .f32) : FVec Ideal S4x4x2x2048x2048 .f32 :=
  select (broadcastInDim S4x4x2x2048x2048 ![3, 4] bcast_S2048x2048_S4x4x2x2048x2048_3_4 a) s (broadcastInDim S4x4x2x2048x2048 ![] bcast_S_S4x4x2x2048x2048 (id (constant S_ .f32 0xFF800000#32)))

theorem logits_at (a : IVec S2048x2048 1) (s : FVec Ideal S4x4x2x2048x2048 .f32) (b h : Fin 4) (t : Fin 2) (p j : Fin 2048) :
    logits a s (ix5 b h t p j) = Scalar.select (a (ix2 p j)) (s (ix5 b h t p j)) ⊥ := by
  unfold logits
  simp only [id]
  clean_types
  pointwise
  rw [Softmax.negInf]

/-- The largest logit of every row. -/
def tops (s : FVec Ideal S4x4x2x2048x2048 .f32) : FVec Ideal S4x4x2x2048 .f32 :=
  Host.reduce FloatOps.maximumf s (constant S_ .f32 0xFF800000#32) reducesTo_S4x4x2x2048x2048_S4x4x2x2048_d4 h_S_

theorem tops_at (s : FVec Ideal S4x4x2x2048x2048 .f32) (b h : Fin 4) (t : Fin 2) (p : Fin 2048) :
    tops s (ix4 b h t p) = Softmax.top fun k => s (ix5 b h t p k) := by
  have hr : S4x4x2x2048x2048.Reduces [4] S4x4x2x2048 := by decide
  refine (Softmax.reduce_max s _ _ hr _ _).trans ?_
  rw [Softmax.negInf]
  unfold Softmax.top
  congr 1
  funext k
  congr 1
  funext a
  match a with
  | 0 => rfl
  | 1 => rfl
  | 2 => rfl
  | 3 => rfl
  | 4 => rfl

/-- No less than minus infinity. -/
def bounded (u : FVec Ideal S4x4x2x2048 .f32) : FVec Ideal S4x4x2x2048 .f32 :=
  maximumf (broadcastInDim S4x4x2x2048 ![] bcast_S_S4x4x2x2048 (constant S_ .f32 0xFF800000#32)) u

theorem bounded_at (u : FVec Ideal S4x4x2x2048 .f32) (b h : Fin 4) (t : Fin 2) (p : Fin 2048) : bounded u (ix4 b h t p) = u (ix4 b h t p) := by
  unfold bounded
  clean_types
  pointwise
  rw [Softmax.negInf]
  exact max_eq_right bot_le

/-- The exponentials of the logits, each less its row's largest. -/
def expos (s : FVec Ideal S4x4x2x2048x2048 .f32) (u : FVec Ideal S4x4x2x2048 .f32) : FVec Ideal S4x4x2x2048x2048 .f32 :=
  Host.exp (subf s (broadcastInDim S4x4x2x2048x2048 ![0, 1, 2, 3, 4] bcast_S4x4x2x2048x1_S4x4x2x2048x2048_0_1_2_3_4 (broadcastInDim S4x4x2x2048x1 ![0, 1, 2, 3] bcast_S4x4x2x2048_S4x4x2x2048x1_0_1_2_3 u)))

theorem expos_at (s : FVec Ideal S4x4x2x2048x2048 .f32) (u : FVec Ideal S4x4x2x2048 .f32) (b h : Fin 4) (t : Fin 2) (p k : Fin 2048) :
    expos s u (ix5 b h t p k) = Ideal.exp (s (ix5 b h t p k) - u (ix4 b h t p)) := by
  unfold expos
  clean_types
  pointwise

/-- The exponentials over their rows' sums. -/
def softs (e : FVec Ideal S4x4x2x2048x2048 .f32) : FVec Ideal S4x4x2x2048x2048 .f32 :=
  Host.divf e (broadcastInDim S4x4x2x2048x2048 ![0, 1, 2, 3, 4] bcast_S4x4x2x2048x1_S4x4x2x2048x2048_0_1_2_3_4 (broadcastInDim S4x4x2x2048x1 ![0, 1, 2, 3] bcast_S4x4x2x2048_S4x4x2x2048x1_0_1_2_3 (Host.reduceAdd e (constant S_ .f32 0x00000000#32) reducesTo_S4x4x2x2048x2048_S4x4x2x2048_d4 h_S_)))

theorem softs_at (e : FVec Ideal S4x4x2x2048x2048 .f32) (b h : Fin 4) (t : Fin 2) (p k : Fin 2048) :
    softs e (ix5 b h t p k) = Ideal.div (e (ix5 b h t p k)) (∑ j : Fin 2048, e (ix5 b h t p j)) := by
  unfold softs
  clean_types
  pointwise

/-! ## The difference of the maps, the values, the norm -/

/-- The share of the second map. -/
def share (q1 k1 q2 k2 : FVec Ideal S128 .f32) : FVec Ideal S_ .f32 :=
  addf (subf (Host.exp (Host.reduceAdd (mulf q1 k1) (constant S_ .f32 0x00000000#32) reducesTo_S128_S_d0 h_S_)) (Host.exp (Host.reduceAdd (mulf q2 k2) (constant S_ .f32 0x00000000#32) reducesTo_S128_S_d0 h_S_))) (constant S_ .f32 0x3E4CCCCD#32)

theorem share_at (q1 k1 q2 k2 : FVec Ideal S128 .f32) (i : S_.Idx) : share q1 k1 q2 k2 i = lam q1 k1 q2 k2 := by
  unfold share lam
  clean_types
  pointwise

/-- The first map less the share of the second. -/
def differ (s : FVec Ideal S4x4x2x2048x2048 .f32) (l : FVec Ideal S_ .f32) : FVec Ideal S4x4x2048x2048 .f32 :=
  subf (shapeCast S4x4x2048x2048 (extractStridedSlice S4x4x1x2048x2048 ![0, 0, 0, 0, 0] s slices_S4x4x2x2048x2048_S4x4x1x2048x2048_0_0_0_0_0) shapeCasts_S4x4x1x2048x2048_S4x4x2048x2048) (mulf (broadcastInDim S4x4x2048x2048 ![] bcast_S_S4x4x2048x2048 l) (shapeCast S4x4x2048x2048 (extractStridedSlice S4x4x1x2048x2048 ![0, 0, 1, 0, 0] s slices_S4x4x2x2048x2048_S4x4x1x2048x2048_0_0_1_0_0) shapeCasts_S4x4x1x2048x2048_S4x4x2048x2048))

theorem differ_at (s : FVec Ideal S4x4x2x2048x2048 .f32) (l : FVec Ideal S_ .f32) (b h : Fin 4) (p k : Fin 2048) :
    differ s l (ix4 b h p k) = s (ix5 b h 0 p k) - l ix0 * s (ix5 b h 1 p k) := by
  unfold differ
  clean_types
  pointwise

/-- The values under the weights. -/
def mixed (v : FVec Ideal S4x2048x4x256 .f32) (w : FVec Ideal S4x4x2048x2048 .f32) : FVec Ideal S4x2048x4x256 .f32 :=
  transpose S4x2048x4x256 [0, 3, 1, 2] (Host.dotGeneral dot_S4x2048x4x256_S4x4x2048x2048_S4x4x256x2048_1_3_3_2_02_01 none v w) transposes_S4x4x256x2048_S4x2048x4x256_0_3_1_2

theorem mixed_at (v : FVec Ideal S4x2048x4x256 .f32) (w : FVec Ideal S4x4x2048x2048 .f32) (b : Fin 4) (p : Fin 2048) (h : Fin 4) (e : Fin 256) :
    mixed v w (ix4 b p h e) = ∑ k : Fin 2048, v (ix4 b k h e) * w (ix4 b h p k) := by
  unfold mixed
  clean_types
  pointwise

/-- Every head's row over its root mean square, times the gains and the constant, the heads side by side. -/
def norms (o : FVec Ideal S4x2048x4x256 .f32) (g : FVec Ideal S256 .f32) : FVec Ideal S8192x1024 .bf16 :=
  truncf .bf16 (shapeCast S8192x1024 (mulf (mulf (mulf o (broadcastInDim S4x2048x4x256 ![0, 1, 2, 3] bcast_S4x2048x4x1_S4x2048x4x256_0_1_2_3 (Host.rsqrt (addf (Host.divf (broadcastInDim S4x2048x4x1 ![0, 1, 2] bcast_S4x2048x4_S4x2048x4x1_0_1_2 (Host.reduceAdd (mulf o o) (constant S_ .f32 0x00000000#32) reducesTo_S4x2048x4x256_S4x2048x4_d3 h_S_)) (broadcastInDim S4x2048x4x1 ![] bcast_S_S4x2048x4x1 (constant S_ .f32 0x43800000#32))) (broadcastInDim S4x2048x4x1 ![] bcast_S_S4x2048x4x1 (constant S_ .f32 0x3727C5AC#32)))))) (broadcastInDim S4x2048x4x256 ![0, 1, 2, 3] bcast_S1x1x1x256_S4x2048x4x256_0_1_2_3 (broadcastInDim S1x1x1x256 ![3] bcast_S256_S1x1x1x256_3 g))) (broadcastInDim S4x2048x4x256 ![] bcast_S_S4x2048x4x256 (constant S_ .f32 0x3F4CCCCD#32))) shapeCasts_S4x2048x4x256_S8192x1024) bitsLt_bf16_f32

theorem norms_at (o : FVec Ideal S4x2048x4x256 .f32) (g : FVec Ideal S256 .f32) (r : Fin 8192) (j : Fin 1024) :
    norms o g (ix2 r j) = normed (fun e => o (ix4 ⟨r.val / 2048, by omega⟩ ⟨r.val % 2048, by omega⟩ ⟨j.val / 256, by omega⟩ e))
      (g (ix1 ⟨j.val % 256, by omega⟩)) ⟨j.val % 256, by omega⟩ := by
  unfold norms normed
  clean_types
  pointwise

/-! ## All stages -/

/-- The logits of every batch, head, half, row and position. -/
def allLogits (x : FVec Ideal S8192x10240 .bf16) : FVec Ideal S4x4x2x2048x2048 .f32 :=
  logits (allowed chunks) (products (roped (queries x) (allAngles angles)) (roped (keys x) (allAngles angles)))

/-- The softmax of the logits. -/
def maps (s : FVec Ideal S4x4x2x2048x2048 .f32) : FVec Ideal S4x4x2x2048x2048 .f32 := softs (expos s (bounded (tops s)))

/-- The stages one after the other. -/
def whole (x : FVec Ideal S8192x10240 .bf16) (q1 k1 q2 k2 : FVec Ideal S128 .f32) (g : FVec Ideal S256 .f32) : FVec Ideal S8192x1024 .bf16 :=
  norms (mixed (values x) (differ (maps (allLogits x)) (share q1 k1 q2 k2))) g

theorem maps_at (s : FVec Ideal S4x4x2x2048x2048 .f32) (b h : Fin 4) (t : Fin 2) (p k : Fin 2048) :
    maps s (ix5 b h t p k) = Softmax.weight (fun k => s (ix5 b h t p k)) k := by
  have he : ∀ k, expos s (bounded (tops s)) (ix5 b h t p k) = Softmax.expo (fun k => s (ix5 b h t p k)) k := by
    intro k
    rw [expos_at, bounded_at, tops_at]
    rfl
  unfold maps
  rw [softs_at]
  simp only [he]
  rfl

/-- Every chunk is less than thirty-two, and chunks compare as numbers. -/
theorem le_ofNat : ∀ a b : Fin 32,
    IntOp.cmpi CmpIPredicate.sle (BitVec.ofNat 32 a.val) (BitVec.ofNat 32 b.val) = BitVec.ofBool (decide (a.val ≤ b.val)) := by
  decide +kernel

theorem allLogits_at (x : FVec Ideal S8192x10240 .bf16) (r : Fin 8192) (j : Fin 1024) (t : Fin 2) (k : Fin 2048) :
    allLogits x (ix5 ⟨r.val / 2048, by omega⟩ ⟨j.val / 256, by omega⟩ t ⟨r.val % 2048, by omega⟩ k) = logit x t r j k := by
  unfold allLogits
  rw [logits_at, allowed_at, chunks_at, chunks_at, products_at]
  rw [le_ofNat ⟨k.val / 64, by omega⟩ ⟨r.val % 2048 / 64, by omega⟩]
  have hq : ∀ d : Fin 128, queries x (ix5 ⟨r.val / 2048, by omega⟩ ⟨r.val % 2048, by omega⟩ ⟨j.val / 256, by omega⟩ t d) = x (ix2 r (qcol j t d)) := by
    intro d
    rw [queries_at]
    have hr : (⟨r.val / 2048 * 2048 + r.val % 2048, by omega⟩ : Fin 8192) = r := Fin.ext (by simp only; omega)
    rw [hr]
    rfl
  have hk : ∀ d : Fin 128, keys x (ix5 ⟨r.val / 2048, by omega⟩ k ⟨j.val / 256, by omega⟩ t d) = x (ix2 (brow r k) (kcol j t d)) := by
    intro d
    rw [keys_at]
    rfl
  simp only [roped_at, angles_at, hq, hk]
  unfold logit
  by_cases h : k.val / 64 ≤ (pos r).val / 64
  · rw [if_pos h, show decide (k.val / 64 ≤ r.val % 2048 / 64) = true from decide_eq_true h]
    rfl
  · rw [if_neg h, show decide (k.val / 64 ≤ r.val % 2048 / 64) = false from decide_eq_false h]
    rfl

/-- The stages together compute the differential attention. -/
theorem whole_eq (x : FVec Ideal S8192x10240 .bf16) (q1 k1 q2 k2 : FVec Ideal S128 .f32) (g : FVec Ideal S256 .f32) :
    whole x q1 k1 q2 k2 g = diff x q1 k1 q2 k2 g := by
  funext i
  idx_vars i
  refine (norms_at _ _ i0 i1).trans ?_
  have hm : (fun e => mixed (values x) (differ (maps (allLogits x)) (share q1 k1 q2 k2)) (ix4 ⟨i0.val / 2048, by omega⟩ ⟨i0.val % 2048, by omega⟩ ⟨i1.val / 256, by omega⟩ e))
      = mix x q1 k1 q2 k2 i0 i1 := by
    funext e
    rw [mixed_at]
    unfold mix
    refine Cert.Sums.sum_congr_ereal fun k => ?_
    rw [values_at, differ_at, share_at, maps_at, maps_at]
    simp only [allLogits_at]
    exact mul_comm (G := EReal) _ _
  rw [hm]
  rfl

/-- The reference's result, from the contents of its arguments' buffers, is the differential attention of them. -/
theorem value (V0 : Valuation τ sig (Elt Ideal)) : norms (Value.res_main_v88 V0) (V0 (Proc.devRef .tc main_arg5))
    = diff (V0 (Proc.devRef .tc main_arg0)) (V0 (Proc.devRef .tc main_arg1)) (V0 (Proc.devRef .tc main_arg2))
        (V0 (Proc.devRef .tc main_arg3)) (V0 (Proc.devRef .tc main_arg4)) (V0 (Proc.devRef .tc main_arg5)) := by
  refine Eq.trans ?_ (whole_eq _ _ _ _ _ _)
  unfold Value.res_main_v88 Value.res_main_v79 Value.res_main_v75 Value.res_main_v68 Value.res_main_v59 Value.res_main_call0_v2
    Value.res_main_call0_v0 Value.res_main_v58 Value.res_main_v37 Value.res_main_v25 Value.res_main_v24 Value.res_main_v23
    Value.res_main_v22 Value.res_main_v21 Value.res_main_v1 whole maps allLogits mixed differ share softs expos bounded tops logits
    products allowed chunks values keys queries roped spread exchanged allAngles angles
  rfl

end Cert.DiffRefIdeal.Attend

end
-- ==== Proof.DiffClaim.lean ====
/- The differential attention: the claims about the two programs. -/
module

public import proofs.«01_k».proof.Defs
public import proofs.«01_k».proof.Proof.Diff
public import proofs.«01_k».proof.Proof.DiffRef
public import proofs.«01_k».proof.Proof.Gen.Diff.Frame
public import Idealize.ShloMosaic.Lib.Claim

@[expose] public section

set_option maxRecDepth 16384

noncomputable section

namespace Cert.Proof.DiffClaims

open Idealize.ShloMosaic Idealize.SL.Sem

/-- The kernel runs, faults nowhere, and leaves its arguments and the counters as they were. -/
theorem frame : Cert.quiescent_Diff := fun m ρ _ => Cert.Diff.Gen.frame m ρ
/-- So does the kernel over the extended reals. -/
theorem frame_ideal : Cert.quiescent_DiffIdeal := fun m ρ _ => Cert.DiffIdeal.Gen.frame m ρ
/-- So does the reference, which has no counters. -/
theorem frame_ref : Cert.quiescent_DiffRefIdeal := fun m ρ _ =>
  (θ_run Cert.DiffRefIdeal.defs _ _).mono (fun r h => ⟨fun c => (h c).2,
      Idealize.ShloMosaic.sem_eq_zero_of_no_sems (by decide) r.2⟩)
    (Cert.DiffRefIdeal.Value.run (F := Ideal) m ρ)
/-- The kernel over the extended reals is the kernel, the literal that masks denoting minus infinity. -/
theorem preserves : Cert.preserves_Diff_DiffIdeal := IdealRules.named_const.statement Cert.DiffIdeal.κ "mask" .f32 0xF149F2CA#32 ⊥ rfl
/-- From arguments that agree the kernel and the reference end with the same result array: the differential attention. -/
theorem algebraic : Cert.algebraic_DiffIdeal_DiffRefIdeal := by
  intro m ρ m' ρ' _ hag
  refine ⟨_, Cert.DiffIdeal.Attend.run m ρ, ?_⟩
  refine (θ_run Cert.DiffRefIdeal.defs _ _).mono (fun _ h c => ⟨(h c).1.trans ?_, (h c).2⟩)
    (Cert.DiffRefIdeal.Value.run (F := Ideal) m' ρ')
  obtain ⟨h0, h1, h2, h3, h4, h5⟩ := hag c
  refine (Cert.DiffRefIdeal.Attend.value (StableHlo.launchContents m' c)).trans ?_
  show Cert.Differential.diff (m' ((c.tc : Thread _ _).loc Cert.DiffRefIdeal.main_arg0)) (m' ((c.tc : Thread _ _).loc Cert.DiffRefIdeal.main_arg1))
    (m' ((c.tc : Thread _ _).loc Cert.DiffRefIdeal.main_arg2)) (m' ((c.tc : Thread _ _).loc Cert.DiffRefIdeal.main_arg3))
    (m' ((c.tc : Thread _ _).loc Cert.DiffRefIdeal.main_arg4)) (m' ((c.tc : Thread _ _).loc Cert.DiffRefIdeal.main_arg5)) = _
  rw [h0, h1, h2, h3, h4, h5]

end Cert.Proof.DiffClaims

end
-- ==== Proof.Cross.lean ====
/- The attention over the memory rows: the value of every element of the kernel's result. -/
module

public import proofs.«01_k».proof.Proof.Gen.CrossIdeal.Value
public import Idealize.ShloMosaic.Lib.Pipeline.ValueKit
public import Idealize.ShloMosaic.Lib.Pointwise
public import proofs.«01_k».proof.Proof.Softmax

@[expose] public section

set_option maxRecDepth 16384

noncomputable section

namespace Cert.CrossIdeal.Attend

open Cert.CrossIdeal Cert.CrossIdeal.Gen Idealize.ShloMosaic Idealize.ShloMosaic.TcCoe Idealize.SL.Sem

variable (m : (ℓ : Loc nD τ sig) → Buf (Elt Ideal) ℓ)

/-- The query columns of the head that result column `j` lies in. -/
def qcol (j : Fin 1024) (e : Fin 256) : Fin 10240 := ⟨9216 + (j.val / 256 * 256 + e.val), by omega⟩

/-- The key columns of that head. -/
def kcol (j : Fin 1024) (e : Fin 256) : Fin 2048 := ⟨j.val / 256 * 256 + e.val, by omega⟩

/-- The value column of result column `j`. -/
def vcol (j : Fin 1024) : Fin 2048 := ⟨1024 + j.val, by omega⟩

/-- Memory row `k` of the batch that row `r` belongs to. -/
def mrow (r : Fin 8192) (k : Fin 256) : Fin 1024 := ⟨r.val / 2048 * 256 + k.val, by omega⟩

/-- The logit of row `r` against memory row `k`, in the head of column `j`: the product of query and key, over sixteen. -/
def logit (x : S8192x10240.Idx → EReal) (y : S1024x2048.Idx → EReal) (r : Fin 8192) (j : Fin 1024) (k : Fin 256) : EReal :=
  (∑ e : Fin 256, x (ix2 r (qcol j e)) * y (ix2 (mrow r k) (kcol j e))) * Ideal.ofBits .f32 0x3D800000#32

/-- The attention of every row over its batch's memory rows. -/
def cross (x : S8192x10240.Idx → EReal) (y : S1024x2048.Idx → EReal) : S8192x1024.Idx → EReal := fun i =>
  Softmax.attend (logit x y (i 0) (i 1)) fun k => y (ix2 (mrow (i 0) k) (vcol (i 1)))

/-- Where each window stands at a grid point, against the result's window. -/
theorem idx : ∀ t : Fin cfg0.N,
    (win0_0.index t 0 = win0_3.index t 0 ∧ win0_0.index t 1 = 36 + win0_3.index t 1)
    ∧ (win0_1.index t 0 = win0_3.index t 0 / 4 ∧ win0_1.index t 1 = win0_3.index t 1)
    ∧ (win0_2.index t 0 = win0_3.index t 0 / 4 ∧ win0_2.index t 1 = 4 + win0_3.index t 1) :=
  (by decide +kernel : ∀ t : Fin grid0.N, _)

/-- The kernel's result array is the attention of its arguments. -/
theorem final (c : Dev nD) : (dats m 0 c).arrAt 3 (cfgs 0).N = cross (V m c main_arg0) (V m c main_arg1) := by
  refine (dats m 0 c).arrAt_eq_of_covers 3 _ (by decide +kernel) fun t hf y => ?_
  obtain ⟨⟨h00, h01⟩, ⟨h10, h11⟩, ⟨h20, h21⟩⟩ := idx t
  blk_simp
  rw [after0_3]
  frame_out
  idx_vars y
  pointwise [k0_pay1, cross, logit, Softmax.attend, Softmax.weight, Softmax.expo, Softmax.top]
  blk_simp [iblk]
  have e0 : ∀ e : Fin 256, (win0_0.blk t).view.emb (ix2 y0 e) = ix2 ((win0_3.blk t).view.emb (ix2 y0 y1) 0) (qcol ((win0_3.blk t).view.emb (ix2 y0 y1) 1) e) := by
    intro e; funext a; apply Fin.ext
    match a with
    | ⟨0, _⟩ => blk_simp [h00]
    | ⟨1, _⟩ =>
      blk_simp [h01, qcol] <;>
        (show (36 + win0_3.index t 1) * 256 + e.val = 9216 + ((win0_3.index t 1 * 256 + y1.val) / 256 * 256 + e.val); omega)
  have e1 : ∀ k e : Fin 256, (win0_1.blk t).view.emb (ix2 k e) = ix2 (mrow ((win0_3.blk t).view.emb (ix2 y0 y1) 0) k) (kcol ((win0_3.blk t).view.emb (ix2 y0 y1) 1) e) := by
    intro k e; funext a; apply Fin.ext
    match a with
    | ⟨0, _⟩ =>
      blk_simp [h10, mrow] <;>
        (show win0_3.index t 0 / 4 * 256 + k.val = (win0_3.index t 0 * 512 + y0.val) / 2048 * 256 + k.val; omega)
    | ⟨1, _⟩ =>
      blk_simp [h11, kcol] <;>
        (show win0_3.index t 1 * 256 + e.val = (win0_3.index t 1 * 256 + y1.val) / 256 * 256 + e.val; omega)
  have e2 : ∀ k : Fin 256, (win0_2.blk t).view.emb (ix2 k y1) = ix2 (mrow ((win0_3.blk t).view.emb (ix2 y0 y1) 0) k) (vcol ((win0_3.blk t).view.emb (ix2 y0 y1) 1)) := by
    intro k; funext a; apply Fin.ext
    match a with
    | ⟨0, _⟩ =>
      blk_simp [h20, mrow] <;>
        (show win0_3.index t 0 / 4 * 256 + k.val = (win0_3.index t 0 * 512 + y0.val) / 2048 * 256 + k.val; omega)
    | ⟨1, _⟩ =>
      blk_simp [h21, vcol] <;>
        (show (4 + win0_3.index t 1) * 256 + y1.val = 1024 + (win0_3.index t 1 * 256 + y1.val); omega)
  simp only [e0, e1, e2, Softmax.negInf]
  rfl

/-- The kernel's run: the result array ends at the attention of the arguments, which stay as they were. -/
theorem run (ρ : Dev nD → PrngReg) :
    θ_run defs (onTc (τ := τ) (main (F := Ideal))) ⟨m, fun _ => 0, ρ⟩ fun r => ∀ c : Dev nD,
      r.2.mem ((c.tc : Thread nD τ).loc main_v0)
          = cross (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(Value.post3 m r h c).trans (final m c),
      Value.kept_main_arg0 m r h c, Value.kept_main_arg1 m r h c⟩)
    (run_main m ρ)

end Cert.CrossIdeal.Attend

end
-- ==== Proof.CrossClaim.lean ====
/- The attention over the memory rows: what the reference computes, and the claims about the two programs. -/
module

public import proofs.«01_k».proof.Defs
public import proofs.«01_k».proof.Proof.Cross
public import proofs.«01_k».proof.Proof.Gen.Cross.Frame
public import proofs.«01_k».proof.Proof.Gen.CrossRefIdeal.Run
public import Idealize.ShloMosaic.Lib.Tactic.CleanTypes
public import Idealize.ShloMosaic.Lib.Claim

@[expose] public section

set_option maxRecDepth 16384

noncomputable section

namespace Cert.CrossRefIdeal.Attend

open Cert.CrossRefIdeal Cert.CrossRefIdeal.Gen Idealize.ShloMosaic Idealize.ShloMosaic.TcCoe Idealize.SL.Sem

/-- The reference's logits, of every batch, head, row and memory row at once. -/
def logits (x : FVec Ideal S8192x10240 .bf16) (y : FVec Ideal S1024x2048 .bf16) : FVec Ideal S4x4x2048x256 .f32 :=
  mulf (Host.dotGeneral dot_S4x2048x4x256_S4x256x4x256_S4x4x2048x256_3_3_1_1_02_02 none (shapeCast S4x2048x4x256 (extractStridedSlice S4x2048x1024 ![0, 0, 9216] (shapeCast S4x2048x10240 (extf .f32 x bitsLt_bf16_f32) shapeCasts_S8192x10240_S4x2048x10240) slices_S4x2048x10240_S4x2048x1024_0_0_9216) shapeCasts_S4x2048x1024_S4x2048x4x256) (shapeCast S4x256x4x256 (extractStridedSlice S4x256x1024 ![0, 0, 0] (shapeCast S4x256x2048 (extf .f32 y bitsLt_bf16_f32) shapeCasts_S1024x2048_S4x256x2048) slices_S4x256x2048_S4x256x1024_0_0_0) shapeCasts_S4x256x1024_S4x256x4x256)) (broadcastInDim S4x4x2048x256 ![] bcast_S_S4x4x2048x256 (constant S_ .f32 0x3D800000#32))

/-- The largest logit of every row. -/
def tops (s : FVec Ideal S4x4x2048x256 .f32) : FVec Ideal S4x4x2048 .f32 :=
  Host.reduce FloatOps.maximumf s (constant S_ .f32 0xFF800000#32) reducesTo_S4x4x2048x256_S4x4x2048_d3 h_S_

/-- No less than minus infinity. -/
def bounded (t : FVec Ideal S4x4x2048 .f32) : FVec Ideal S4x4x2048 .f32 :=
  maximumf (broadcastInDim S4x4x2048 ![] bcast_S_S4x4x2048 (constant S_ .f32 0xFF800000#32)) t

/-- The exponentials of the logits, each less its row's largest. -/
def expos (s : FVec Ideal S4x4x2048x256 .f32) (t : FVec Ideal S4x4x2048 .f32) : FVec Ideal S4x4x2048x256 .f32 :=
  Host.exp (subf s (broadcastInDim S4x4x2048x256 ![0, 1, 2, 3] bcast_S4x4x2048x1_S4x4x2048x256_0_1_2_3 (broadcastInDim S4x4x2048x1 ![0, 1, 2] bcast_S4x4x2048_S4x4x2048x1_0_1_2 t)))

/-- The exponentials over their rows' sums. -/
def weights (e : FVec Ideal S4x4x2048x256 .f32) : FVec Ideal S4x4x2048x256 .f32 :=
  Host.divf e (broadcastInDim S4x4x2048x256 ![0, 1, 2, 3] bcast_S4x4x2048x1_S4x4x2048x256_0_1_2_3 (broadcastInDim S4x4x2048x1 ![0, 1, 2] bcast_S4x4x2048_S4x4x2048x1_0_1_2 (Host.reduceAdd e (constant S_ .f32 0x00000000#32) reducesTo_S4x4x2048x256_S4x4x2048_d3 h_S_)))

/-- The values of the memory rows, head by head. -/
def values (y : FVec Ideal S1024x2048 .bf16) : FVec Ideal S4x256x4x256 .f32 :=
  shapeCast S4x256x4x256 (extractStridedSlice S4x256x1024 ![0, 0, 1024] (shapeCast S4x256x2048 (extf .f32 y bitsLt_bf16_f32) shapeCasts_S1024x2048_S4x256x2048) slices_S4x256x2048_S4x256x1024_0_0_1024) shapeCasts_S4x256x1024_S4x256x4x256

/-- The values under the weights, the heads side by side. -/
def mixed (p : FVec Ideal S4x4x2048x256 .f32) (v : FVec Ideal S4x256x4x256 .f32) : FVec Ideal S8192x1024 .bf16 :=
  truncf .bf16 (shapeCast S8192x1024 (transpose S4x2048x4x256 [0, 3, 1, 2] (Host.dotGeneral dot_S4x256x4x256_S4x4x2048x256_S4x4x256x2048_1_3_3_2_02_01 none v p) transposes_S4x4x256x2048_S4x2048x4x256_0_3_1_2) shapeCasts_S4x2048x4x256_S8192x1024) bitsLt_bf16_f32

theorem logits_at (x : FVec Ideal S8192x10240 .bf16) (y : FVec Ideal S1024x2048 .bf16) (b h : Fin 4) (i : Fin 2048) (k : Fin 256) :
    logits x y (ix4 b h i k) = (∑ e : Fin 256, x (ix2 ⟨b.val * 2048 + i.val, by omega⟩ ⟨9216 + (h.val * 256 + e.val), by omega⟩)
      * y (ix2 ⟨b.val * 256 + k.val, by omega⟩ ⟨h.val * 256 + e.val, by omega⟩)) * Ideal.ofBits .f32 0x3D800000#32 := by
  unfold logits
  clean_types
  pointwise

theorem tops_at (s : FVec Ideal S4x4x2048x256 .f32) (b h : Fin 4) (i : Fin 2048) :
    tops s (ix3 b h i) = Softmax.top fun k => s (ix4 b h i k) := by
  have hr : S4x4x2048x256.Reduces [3] S4x4x2048 := by decide
  refine (Softmax.reduce_max s _ _ hr _ _).trans ?_
  rw [Softmax.negInf]
  unfold Softmax.top
  congr 1
  funext k
  congr 1
  funext a
  match a with
  | 0 => rfl
  | 1 => rfl
  | 2 => rfl
  | 3 => rfl

theorem bounded_at (t : FVec Ideal S4x4x2048 .f32) (b h : Fin 4) (i : Fin 2048) : bounded t (ix3 b h i) = t (ix3 b h i) := by
  unfold bounded
  clean_types
  pointwise
  rw [Softmax.negInf]
  exact max_eq_right bot_le

theorem expos_at (s : FVec Ideal S4x4x2048x256 .f32) (t : FVec Ideal S4x4x2048 .f32) (b h : Fin 4) (i : Fin 2048) (k : Fin 256) :
    expos s t (ix4 b h i k) = Ideal.exp (s (ix4 b h i k) - t (ix3 b h i)) := by
  unfold expos
  clean_types
  pointwise

theorem weights_at (e : FVec Ideal S4x4x2048x256 .f32) (b h : Fin 4) (i : Fin 2048) (k : Fin 256) :
    weights e (ix4 b h i k) = Ideal.div (e (ix4 b h i k)) (∑ j : Fin 256, e (ix4 b h i j)) := by
  unfold weights
  clean_types
  pointwise

theorem values_at (y : FVec Ideal S1024x2048 .bf16) (b h : Fin 4) (k d : Fin 256) :
    values y (ix4 b k h d) = y (ix2 ⟨b.val * 256 + k.val, by omega⟩ ⟨1024 + (h.val * 256 + d.val), by omega⟩) := by
  unfold values
  clean_types
  pointwise

theorem mixed_at (p : FVec Ideal S4x4x2048x256 .f32) (v : FVec Ideal S4x256x4x256 .f32) (r : Fin 8192) (j : Fin 1024) :
    mixed p v (ix2 r j) = ∑ k : Fin 256,
      v (ix4 ⟨r.val / 2048, by omega⟩ k ⟨j.val / 256, by omega⟩ ⟨j.val % 256, by omega⟩)
        * p (ix4 ⟨r.val / 2048, by omega⟩ ⟨j.val / 256, by omega⟩ ⟨r.val % 2048, by omega⟩ k) := by
  unfold mixed
  clean_types
  pointwise

/-- The stages one after the other. -/
def whole (x : FVec Ideal S8192x10240 .bf16) (y : FVec Ideal S1024x2048 .bf16) : FVec Ideal S8192x1024 .bf16 :=
  mixed (weights (expos (logits x y) (bounded (tops (logits x y))))) (values y)

/-- The stages together compute the attention. -/
theorem whole_eq (x : FVec Ideal S8192x10240 .bf16) (y : FVec Ideal S1024x2048 .bf16) :
    whole x y = Cert.CrossIdeal.Attend.cross x y := by
  funext i
  idx_vars i
  refine (mixed_at _ _ i0 i1).trans ?_
  unfold Cert.CrossIdeal.Attend.cross Softmax.attend Softmax.weight
  refine Cert.Sums.sum_congr_ereal fun k => ?_
  have hl : ∀ k' : Fin 256, logits x y (ix4 ⟨i0.val / 2048, by omega⟩ ⟨i1.val / 256, by omega⟩ ⟨i0.val % 2048, by omega⟩ k')
      = Cert.CrossIdeal.Attend.logit x y i0 i1 k' := by
    intro k'
    rw [logits_at]
    have hr : (⟨i0.val / 2048 * 2048 + i0.val % 2048, by omega⟩ : Fin 8192) = i0 := Fin.ext (by simp only; omega)
    rw [hr]
    rfl
  have he : ∀ k' : Fin 256, expos (logits x y) (bounded (tops (logits x y))) (ix4 ⟨i0.val / 2048, by omega⟩ ⟨i1.val / 256, by omega⟩ ⟨i0.val % 2048, by omega⟩ k')
      = Softmax.expo (Cert.CrossIdeal.Attend.logit x y i0 i1) k' := by
    intro k'
    rw [expos_at, bounded_at, tops_at]
    simp only [hl]
    rfl
  rw [values_at, weights_at]
  simp only [he]
  have hv : (⟨1024 + (i1.val / 256 * 256 + i1.val % 256), by omega⟩ : Fin 2048) = Cert.CrossIdeal.Attend.vcol i1 :=
    Fin.ext (by simp only [Cert.CrossIdeal.Attend.vcol]; omega)
  rw [hv]
  exact mul_comm (G := EReal) _ _

variable (m : (ℓ : Loc nD τ sig) → Buf (Elt Ideal) ℓ)

/-- The reference's result is the attention of its arguments. -/
theorem value (c : Dev nD) : Value.res_main_v27 m c = Cert.CrossIdeal.Attend.cross (m ((c.tc : Thread nD τ).loc main_arg0))
    (m ((c.tc : Thread nD τ).loc main_arg1)) := by
  refine Eq.trans ?_ (whole_eq _ _)
  unfold Value.res_main_v27 whole mixed weights expos bounded tops logits values
  rfl

end Cert.CrossRefIdeal.Attend

namespace Cert.Proof.CrossClaims

open Idealize.ShloMosaic Idealize.SL.Sem

/-- The kernel runs, faults nowhere, and leaves its arguments and the counters as they were. -/
theorem frame : Cert.quiescent_Cross := fun m ρ _ => Cert.Cross.Gen.frame m ρ
/-- So does the kernel over the extended reals. -/
theorem frame_ideal : Cert.quiescent_CrossIdeal := fun m ρ _ => Cert.CrossIdeal.Gen.frame m ρ
/-- So does the reference, which has no counters. -/
theorem frame_ref : Cert.quiescent_CrossRefIdeal := fun m ρ _ =>
  (θ_run Cert.CrossRefIdeal.defs _ _).mono (fun r h => ⟨fun c => (h c).2,
      Idealize.ShloMosaic.sem_eq_zero_of_no_sems (by decide) r.2⟩)
    (Cert.CrossRefIdeal.Value.run (F := Ideal) m ρ)
/-- The kernel over the extended reals is the kernel, no operation exchanged. -/
theorem preserves : Cert.preserves_Cross_CrossIdeal := trivial
/-- From arguments that agree the kernel and the reference end with the same result array: the attention. -/
theorem algebraic : Cert.algebraic_CrossIdeal_CrossRefIdeal := by
  intro m ρ m' ρ' _ hag
  refine ⟨_, Cert.CrossIdeal.Attend.run m ρ, ?_⟩
  refine (θ_run Cert.CrossRefIdeal.defs _ _).mono (fun _ h c => ⟨(h c).1.trans ?_, (h c).2⟩)
    (Cert.CrossRefIdeal.Value.run (F := Ideal) m' ρ')
  rw [Cert.CrossRefIdeal.Attend.value, (hag c).1, (hag c).2]

end Cert.Proof.CrossClaims

end
-- ==== Proof.Merge.lean ====
/- The gated merge: the value of every element of the kernel's result. -/
module

public import proofs.«01_k».proof.Proof.Gen.MergeIdeal.Value
public import Idealize.ShloMosaic.Lib.Pipeline.ValueKit
public import Idealize.ShloMosaic.Lib.Pointwise
public import Idealize.ShloMosaic.Lib.Claim
public import proofs.«01_k».proof.Proof.Sums

@[expose] public section

set_option maxRecDepth 16384

noncomputable section

namespace Cert.MergeIdeal.Gated

open Cert.MergeIdeal Cert.MergeIdeal.Gen Idealize.ShloMosaic Idealize.ShloMosaic.TcCoe Idealize.SL.Sem

variable (m : (ℓ : Loc nD τ sig) → Buf (Elt Ideal) ℓ)

/-- Gate `b`'s column `j` among the columns of the three gates side by side. -/
def col (b : Fin 3) (j : Fin 4096) : Fin 12288 := ⟨b.val * 4096 + j.val, by omega⟩

/-- Gate `b` of row `r` at column `j`: the logistic function of the row's product with the gate's column, plus its
    bias. -/
def gate (x : S8192x4096.Idx → EReal) (wg : S4096x12288.Idx → EReal) (bg : S12288.Idx → EReal)
    (b : Fin 3) (r : Fin 8192) (j : Fin 4096) : EReal :=
  Ideal.logistic ((∑ k : Fin 4096, x (ix2 r k) * wg (ix2 k (col b j))) + bg (ix1 (col b j)))

/-- The merge: each branch's projection times its gate, summed over the three branches. -/
def merged (x : S8192x4096.Idx → EReal) (oa : S8192x2048.Idx → EReal) (ob oc : S8192x1024.Idx → EReal)
    (wg : S4096x12288.Idx → EReal) (bg : S12288.Idx → EReal)
    (wa : S2048x4096.Idx → EReal) (wb wc : S1024x4096.Idx → EReal) : S8192x4096.Idx → EReal := fun i =>
  gate x wg bg 0 (i 0) (i 1) * (∑ k : Fin 2048, oa (ix2 (i 0) k) * wa (ix2 k (i 1)))
    + gate x wg bg 1 (i 0) (i 1) * (∑ k : Fin 1024, ob (ix2 (i 0) k) * wb (ix2 k (i 1)))
    + gate x wg bg 2 (i 0) (i 1) * (∑ k : Fin 1024, oc (ix2 (i 0) k) * wc (ix2 k (i 1)))

/-- Where each window stands at a grid point, against the result's window: the activations at its rows, the weights at
    its columns, the gates' weights and biases at its columns within their own gate. -/
theorem idx : ∀ t : Fin cfg0.N,
    (win0_0.index t 0 = win0_13.index t 0 ∧ win0_0.index t 1 = 0)
    ∧ (win0_1.index t 0 = win0_13.index t 0 ∧ win0_1.index t 1 = 0)
    ∧ (win0_2.index t 0 = win0_13.index t 0 ∧ win0_2.index t 1 = 0)
    ∧ (win0_3.index t 0 = win0_13.index t 0 ∧ win0_3.index t 1 = 0)
    ∧ (win0_4.index t 0 = 0 ∧ win0_4.index t 1 = win0_13.index t 1)
    ∧ (win0_5.index t 0 = 0 ∧ win0_5.index t 1 = 16 + win0_13.index t 1)
    ∧ (win0_6.index t 0 = 0 ∧ win0_6.index t 1 = 32 + win0_13.index t 1)
    ∧ (win0_7.index t 0 = 0 ∧ win0_7.index t 1 = win0_13.index t 1)
    ∧ (win0_8.index t 0 = 0 ∧ win0_8.index t 1 = 16 + win0_13.index t 1)
    ∧ (win0_9.index t 0 = 0 ∧ win0_9.index t 1 = 32 + win0_13.index t 1)
    ∧ (win0_10.index t 0 = 0 ∧ win0_10.index t 1 = win0_13.index t 1)
    ∧ (win0_11.index t 0 = 0 ∧ win0_11.index t 1 = win0_13.index t 1)
    ∧ (win0_12.index t 0 = 0 ∧ win0_12.index t 1 = win0_13.index t 1) :=
  (by decide +kernel : ∀ t : Fin grid0.N, _)

/-- The biases as the kernel's windows read them, one row, are the bias argument. -/
theorem bias (c : Dev nD) (z : Fin 1) (j : Fin 12288) :
    V m c main_v0 (ix2 z j) = m ((c.tc : Thread nD τ).loc main_arg5) (ix1 j) := by
  obtain rfl : z = 0 := Subsingleton.elim _ _
  entry_read
  pointwise

set_option maxHeartbeats 3200000 in
/-- The kernel's result array is the merge of what its windows' arrays hold when the grid starts. -/
theorem final_entry (c : Dev nD) : (dats m 0 c).arrAt 13 (cfgs 0).N = merged (V m c main_arg0) (V m c main_arg1)
    (V m c main_arg2) (V m c main_arg3) (V m c main_arg4) (fun i => V m c main_v0 (ix2 0 (i 0)))
    (V m c main_arg6) (V m c main_arg7) (V m c main_arg8) := by
  refine (dats m 0 c).arrAt_eq_of_covers 13 _ (by decide +kernel) fun t hf y => ?_
  obtain ⟨⟨h00, h01⟩, ⟨h10, h11⟩, ⟨h20, h21⟩, ⟨h30, h31⟩, ⟨h40, h41⟩, ⟨h50, h51⟩, ⟨h60, h61⟩, ⟨h70, h71⟩, ⟨h80, h81⟩,
    ⟨h90, h91⟩, ⟨ha0, ha1⟩, ⟨hb0, hb1⟩, ⟨hc0, hc1⟩⟩ := idx t
  blk_simp
  rw [after0_13]
  frame_out
  idx_vars y
  pointwise [k0_pay1, k0_pay2, k0_pay3, merged, gate]
  blk_simp [iblk]
  have e0 : ∀ k : Fin 4096, (win0_0.blk t).view.emb (ix2 y0 k) = ix2 ((win0_13.blk t).view.emb (ix2 y0 y1) 0) k := by
    intro k; funext a; apply Fin.ext
    match a with
    | ⟨0, _⟩ => blk_simp [h00]
    | ⟨1, _⟩ => blk_simp [h01]
  have e1 : ∀ k : Fin 2048, (win0_1.blk t).view.emb (ix2 y0 k) = ix2 ((win0_13.blk t).view.emb (ix2 y0 y1) 0) k := by
    intro k; funext a; apply Fin.ext
    match a with
    | ⟨0, _⟩ => blk_simp [h10]
    | ⟨1, _⟩ => blk_simp [h11]
  have e2 : ∀ k : Fin 1024, (win0_2.blk t).view.emb (ix2 y0 k) = ix2 ((win0_13.blk t).view.emb (ix2 y0 y1) 0) k := by
    intro k; funext a; apply Fin.ext
    match a with
    | ⟨0, _⟩ => blk_simp [h20]
    | ⟨1, _⟩ => blk_simp [h21]
  have e3 : ∀ k : Fin 1024, (win0_3.blk t).view.emb (ix2 y0 k) = ix2 ((win0_13.blk t).view.emb (ix2 y0 y1) 0) k := by
    intro k; funext a; apply Fin.ext
    match a with
    | ⟨0, _⟩ => blk_simp [h30]
    | ⟨1, _⟩ => blk_simp [h31]
  have e4 : ∀ k : Fin 4096, (win0_4.blk t).view.emb (ix2 k y1) = ix2 k (col 0 ((win0_13.blk t).view.emb (ix2 y0 y1) 1)) := by
    intro k; funext a; apply Fin.ext
    match a with
    | ⟨0, _⟩ => blk_simp [h40, col]
    | ⟨1, _⟩ =>
      blk_simp [h41, col] <;>
        (show win0_13.index t 1 * 256 + y1.val = 0 * 4096 + (win0_13.index t 1 * 256 + y1.val); omega)
  have e5 : ∀ k : Fin 4096, (win0_5.blk t).view.emb (ix2 k y1) = ix2 k (col 1 ((win0_13.blk t).view.emb (ix2 y0 y1) 1)) := by
    intro k; funext a; apply Fin.ext
    match a with
    | ⟨0, _⟩ => blk_simp [h50, col]
    | ⟨1, _⟩ =>
      blk_simp [h51, col] <;>
        (show (16 + win0_13.index t 1) * 256 + y1.val = 1 * 4096 + (win0_13.index t 1 * 256 + y1.val); omega)
  have e6 : ∀ k : Fin 4096, (win0_6.blk t).view.emb (ix2 k y1) = ix2 k (col 2 ((win0_13.blk t).view.emb (ix2 y0 y1) 1)) := by
    intro k; funext a; apply Fin.ext
    match a with
    | ⟨0, _⟩ => blk_simp [h60, col]
    | ⟨1, _⟩ =>
      blk_simp [h61, col] <;>
        (show (32 + win0_13.index t 1) * 256 + y1.val = 2 * 4096 + (win0_13.index t 1 * 256 + y1.val); omega)
  have e7 : (win0_7.blk t).view.emb (ix2 0 y1) = ix2 0 (col 0 ((win0_13.blk t).view.emb (ix2 y0 y1) 1)) := by
    funext a; apply Fin.ext
    match a with
    | ⟨0, _⟩ => blk_simp [h70, col]
    | ⟨1, _⟩ =>
      blk_simp [h71, col] <;>
        (show win0_13.index t 1 * 256 + y1.val = 0 * 4096 + (win0_13.index t 1 * 256 + y1.val); omega)
  have e8 : (win0_8.blk t).view.emb (ix2 0 y1) = ix2 0 (col 1 ((win0_13.blk t).view.emb (ix2 y0 y1) 1)) := by
    funext a; apply Fin.ext
    match a with
    | ⟨0, _⟩ => blk_simp [h80, col]
    | ⟨1, _⟩ =>
      blk_simp [h81, col] <;>
        (show (16 + win0_13.index t 1) * 256 + y1.val = 1 * 4096 + (win0_13.index t 1 * 256 + y1.val); omega)
  have e9 : (win0_9.blk t).view.emb (ix2 0 y1) = ix2 0 (col 2 ((win0_13.blk t).view.emb (ix2 y0 y1) 1)) := by
    funext a; apply Fin.ext
    match a with
    | ⟨0, _⟩ => blk_simp [h90, col]
    | ⟨1, _⟩ =>
      blk_simp [h91, col] <;>
        (show (32 + win0_13.index t 1) * 256 + y1.val = 2 * 4096 + (win0_13.index t 1 * 256 + y1.val); omega)
  have e10 : ∀ k : Fin 2048, (win0_10.blk t).view.emb (ix2 k y1) = ix2 k ((win0_13.blk t).view.emb (ix2 y0 y1) 1) := by
    intro k; funext a; apply Fin.ext
    match a with
    | ⟨0, _⟩ => blk_simp [ha0]
    | ⟨1, _⟩ => blk_simp [ha1]
  have e11 : ∀ k : Fin 1024, (win0_11.blk t).view.emb (ix2 k y1) = ix2 k ((win0_13.blk t).view.emb (ix2 y0 y1) 1) := by
    intro k; funext a; apply Fin.ext
    match a with
    | ⟨0, _⟩ => blk_simp [hb0]
    | ⟨1, _⟩ => blk_simp [hb1]
  have e12 : ∀ k : Fin 1024, (win0_12.blk t).view.emb (ix2 k y1) = ix2 k ((win0_13.blk t).view.emb (ix2 y0 y1) 1) := by
    intro k; funext a; apply Fin.ext
    match a with
    | ⟨0, _⟩ => blk_simp [hc0]
    | ⟨1, _⟩ => blk_simp [hc1]
  simp only [e0, e1, e2, e3, e4, e5, e6, e7, e8, e9, e10, e11, e12]
  rfl

/-- The kernel's result array is the merge of its arguments. -/
theorem final (c : Dev nD) : (dats m 0 c).arrAt 13 (cfgs 0).N = merged (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)) (m ((c.tc : Thread nD τ).loc main_arg8)) := by
  rw [final_entry m c, show (fun i : S12288.Idx => V m c main_v0 (ix2 0 (i 0))) = m ((c.tc : Thread nD τ).loc main_arg5) from
    funext fun i => (bias m c 0 (i 0)).trans (congrArg _ (by funext a; apply Fin.ext; match a with | ⟨0, _⟩ => rfl)),
    V_main_arg0 m c, V_main_arg1 m c, V_main_arg2 m c, V_main_arg3 m c, V_main_arg4 m c, V_main_arg6 m c,
    V_main_arg7 m c, V_main_arg8 m c]

/-- The kernel's run: the result array ends at the merge of the arguments, which stay as they were. -/
theorem run (ρ : Dev nD → PrngReg) :
    θ_run defs (onTc (τ := τ) (main (F := Ideal))) ⟨m, fun _ => 0, ρ⟩ fun r => ∀ c : Dev nD,
      r.2.mem ((c.tc : Thread nD τ).loc main_v1) = merged (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg5)) (m ((c.tc : Thread nD τ).loc main_arg6))
        (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(Value.post13 m r h c).trans (final m c),
      Value.kept_main_arg0 m r h c, Value.kept_main_arg1 m r h c, Value.kept_main_arg2 m r h c,
      Value.kept_main_arg3 m r h c, Value.kept_main_arg4 m r h c, Value.kept_main_arg5 m r h c,
      Value.kept_main_arg6 m r h c, Value.kept_main_arg7 m r h c, Value.kept_main_arg8 m r h c⟩)
    (run_main m ρ)

end Cert.MergeIdeal.Gated

end
-- ==== Proof.MergeClaim.lean ====
/- The gated merge: what the reference computes, and the claims about the two programs. -/
module

public import proofs.«01_k».proof.Defs
public import proofs.«01_k».proof.Proof.Merge
public import proofs.«01_k».proof.Proof.Gen.Merge.Frame
public import proofs.«01_k».proof.Proof.Gen.MergeRefIdeal.Run
public import Idealize.ShloMosaic.Lib.Tactic.CleanTypes
public import Idealize.ShloMosaic.Lib.Claim

@[expose] public section

set_option maxRecDepth 16384

noncomputable section

namespace Cert.MergeRefIdeal.Gated

open Cert.MergeRefIdeal Cert.MergeRefIdeal.Gen Idealize.ShloMosaic Idealize.ShloMosaic.TcCoe Idealize.SL.Sem

variable (m : (ℓ : Loc nD τ sig) → Buf (Elt Ideal) ℓ)

/-- The reference's result, read element by element, is the merge the kernel leaves. -/
theorem run (ρ : Dev nD → PrngReg) :
    θ_run defs (onTc (τ := τ) (main (F := Ideal))) ⟨m, fun _ => 0, ρ⟩ fun r => ∀ c : Dev nD,
      r.2.mem ((c.tc : Thread nD τ).loc main_v29) = MergeIdeal.Gated.merged (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg5)) (m ((c.tc : Thread nD τ).loc main_arg6))
        (m ((c.tc : Thread nD τ).loc main_arg7)) (m ((c.tc : Thread nD τ).loc main_arg8)) := by
  refine (θ_run defs _ _).mono (fun _ h c => (h c).1.trans ?_) (Value.run (F := Ideal) m ρ)
  funext i
  idx_vars i
  clean_types
  pointwise [MergeIdeal.Gated.merged, MergeIdeal.Gated.gate]
  have c0 : (⟨i1.val, by omega⟩ : Fin 12288) = MergeIdeal.Gated.col 0 i1 := Fin.ext (by simp [MergeIdeal.Gated.col])
  have c1 : (⟨4096 + i1.val, by omega⟩ : Fin 12288) = MergeIdeal.Gated.col 1 i1 := Fin.ext (by simp [MergeIdeal.Gated.col])
  have c2 : (⟨8192 + i1.val, by omega⟩ : Fin 12288) = MergeIdeal.Gated.col 2 i1 := Fin.ext (by simp [MergeIdeal.Gated.col])
  simp only [c0, c1, c2, Ideal.logistic]

end Cert.MergeRefIdeal.Gated

namespace Cert.Proof.MergeClaims

open Idealize.ShloMosaic Idealize.SL.Sem

/-- The kernel runs, faults nowhere, and leaves its arguments and the counters as they were. -/
theorem frame : Cert.quiescent_Merge := fun m ρ _ => Cert.Merge.Gen.frame m ρ
/-- So does the kernel over the extended reals. -/
theorem frame_ideal : Cert.quiescent_MergeIdeal := fun m ρ _ => Cert.MergeIdeal.Gen.frame m ρ
/-- So does the reference, which has no counters. -/
theorem frame_ref : Cert.quiescent_MergeRefIdeal := fun m ρ _ =>
  (θ_run Cert.MergeRefIdeal.defs _ _).mono (fun r h => ⟨fun c => (h c).2,
      Idealize.ShloMosaic.sem_eq_zero_of_no_sems (by decide) r.2⟩)
    (Cert.MergeRefIdeal.Value.run (F := Ideal) m ρ)
/-- The kernel over the extended reals is the kernel, no operation exchanged. -/
theorem preserves : Cert.preserves_Merge_MergeIdeal := trivial
/-- From arguments that agree the kernel and the reference end with the same result array: the merge. -/
theorem algebraic : Cert.algebraic_MergeIdeal_MergeRefIdeal := by
  intro m ρ m' ρ' _ hag
  refine ⟨_, Cert.MergeIdeal.Gated.run m ρ, ?_⟩
  refine (θ_run Cert.MergeRefIdeal.defs _ _).mono (fun _ h c => ⟨(h.1 c).trans ?_, (h.2 c).2⟩)
    (θ_run_and (Cert.MergeRefIdeal.Gated.run m' ρ') (Cert.MergeRefIdeal.Value.run (F := Ideal) m' ρ'))
  obtain ⟨h0, h1, h2, h3, h4, h5, h6, h7, h8⟩ := hag c
  rw [h0, h1, h2, h3, h4, h5, h6, h7, h8]

end Cert.Proof.MergeClaims

end
-- ==== Proof.InProj.lean ====
/- The input projection: the value of every element of the kernel's result, and its agreement with one product. -/
module

public import proofs.«01_k».proof.Proof.Gen.InProjIdeal.Value
public import Idealize.ShloMosaic.Lib.Pipeline.ValueKit
public import Idealize.ShloMosaic.Lib.Pointwise
public import proofs.«01_k».proof.Proof.Sums

@[expose] public section

set_option maxRecDepth 16384

noncomputable section

namespace Cert.InProjIdeal.Product

open Cert.InProjIdeal Cert.InProjIdeal.Gen Idealize.ShloMosaic Idealize.ShloMosaic.TcCoe Idealize.SL.Sem

variable (m : (ℓ : Loc nD τ sig) → Buf (Elt Ideal) ℓ)

/-- The product of an 8192 × 4096 array and a 4096 × 10240 array, element by element. -/
def prod (x : S8192x4096.Idx → EReal) (w : S4096x10240.Idx → EReal) : S8192x10240.Idx → EReal :=
  fun i => ∑ k : Fin 4096, x (ix2 (i 0) k) * w (ix2 k (i 1))

theorem idx : ∀ t : Fin cfg0.N,
    win0_0.index t 0 = win0_2.index t 0 ∧ win0_0.index t 1 = 0 ∧ win0_1.index t 0 = 0 ∧ win0_1.index t 1 = win0_2.index t 1 :=
  (by decide +kernel : ∀ t : Fin grid0.N, _)

/-- After the run the result array is the product of the two arguments. -/
theorem final (c : Dev nD) : (dats m 0 c).arrAt 2 (cfgs 0).N = prod (V m c main_arg0) (V m c main_arg1) := by
  refine (dats m 0 c).arrAt_eq_of_covers 2 _ (by decide +kernel) fun t hf y => ?_
  obtain ⟨h0, h1, h2, h3⟩ := idx t
  blk_simp
  rw [after0_2]
  frame_out
  idx_vars y
  pointwise [k0_pay1, prod]
  blk_simp [iblk]
  refine Sums.sum_congr_ereal fun k => ?_
  congr 2
  · funext a
    apply Fin.ext
    match a with
    | ⟨0, _⟩ => blk_simp [h0]
    | ⟨1, _⟩ => blk_simp [h1]
  · funext a
    apply Fin.ext
    match a with
    | ⟨0, _⟩ => blk_simp [h2]
    | ⟨1, _⟩ => blk_simp [h3]

/-- The kernel's run: the result array ends at the matrix product of the two arguments, which stay as they were. -/
theorem run (ρ : Dev nD → PrngReg) :
    θ_run defs (onTc (τ := τ) (main (F := Ideal))) ⟨m, fun _ => 0, ρ⟩ fun r => ∀ c : Dev nD,
      r.2.mem ((c.tc : Thread nD τ).loc main_v0)
          = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(Value.post2 m r h c).trans (final m c),
      Value.kept_main_arg0 m r h c, Value.kept_main_arg1 m r h c⟩)
    (run_main m ρ)

end Cert.InProjIdeal.Product

end
-- ==== Proof.InProjClaim.lean ====
/- The input projection: what the reference computes, and the claims about the two programs. -/
module

public import proofs.«01_k».proof.Defs
public import proofs.«01_k».proof.Proof.InProj
public import proofs.«01_k».proof.Proof.Gen.InProj.Frame
public import proofs.«01_k».proof.Proof.Gen.InProjRefIdeal.Run
public import Idealize.ShloMosaic.Lib.Tactic.CleanTypes
public import Idealize.ShloMosaic.Lib.Claim

@[expose] public section

set_option maxRecDepth 16384

noncomputable section

namespace Cert.InProjRefIdeal.Product

open Cert.InProjRefIdeal Cert.InProjRefIdeal.Gen Idealize.ShloMosaic Idealize.ShloMosaic.TcCoe Idealize.SL.Sem

/-- The reference's term, the whole-array product of the widened first argument with the second, is the product
    the kernel leaves. -/
theorem value (x : FVec Ideal S8192x4096 .bf16) (w : FVec Ideal S4096x10240 .f32) :
    (truncf .bf16 (Host.dotGeneral dot_S8192x4096_S4096x10240_S8192x10240_1_0_0_1_n_n none (extf .f32 x bitsLt_bf16_f32) w)
      bitsLt_bf16_f32 : FVec Ideal S8192x10240 .bf16) = Cert.InProjIdeal.Product.prod x w := by
  funext i
  idx_vars i
  clean_types
  pointwise [Cert.InProjIdeal.Product.prod]

end Cert.InProjRefIdeal.Product

namespace Cert.Proof.InProjClaims

open Idealize.ShloMosaic Idealize.SL.Sem

/-- The kernel runs, faults nowhere, and leaves its arguments and the counters as they were. -/
theorem frame : Cert.quiescent_InProj := fun m ρ _ => Cert.InProj.Gen.frame m ρ
/-- So does the kernel over the extended reals. -/
theorem frame_ideal : Cert.quiescent_InProjIdeal := fun m ρ _ => Cert.InProjIdeal.Gen.frame m ρ
/-- So does the reference, which has no counters. -/
theorem frame_ref : Cert.quiescent_InProjRefIdeal := fun m ρ _ =>
  (θ_run Cert.InProjRefIdeal.defs _ _).mono (fun r h => ⟨fun c => (h c).2,
      Idealize.ShloMosaic.sem_eq_zero_of_no_sems (by decide) r.2⟩)
    (Cert.InProjRefIdeal.Value.run (F := Ideal) m ρ)
/-- The kernel over the extended reals is the kernel, no operation exchanged. -/
theorem preserves : Cert.preserves_InProj_InProjIdeal := trivial
/-- From arguments that agree the kernel and the reference end with the same result array: the product. -/
theorem algebraic : Cert.algebraic_InProjIdeal_InProjRefIdeal := by
  intro m ρ m' ρ' _ hag
  refine ⟨_, Cert.InProjIdeal.Product.run m ρ, ?_⟩
  refine (θ_run Cert.InProjRefIdeal.defs _ _).mono (fun _ h c => ⟨(h c).1.trans ?_, (h c).2⟩)
    (Cert.InProjRefIdeal.Value.run (F := Ideal) m' ρ')
  rw [(hag c).1, (hag c).2]
  exact Cert.InProjRefIdeal.Product.value _ _

end Cert.Proof.InProjClaims

end
-- ==== Proof.MemKv.lean ====
/- The input projection: the value of every element of the kernel's result, and its agreement with one product. -/
module

public import proofs.«01_k».proof.Proof.Gen.MemKvIdeal.Value
public import Idealize.ShloMosaic.Lib.Pipeline.ValueKit
public import Idealize.ShloMosaic.Lib.Pointwise
public import proofs.«01_k».proof.Proof.Sums

@[expose] public section

set_option maxRecDepth 16384

noncomputable section

namespace Cert.MemKvIdeal.Product

open Cert.MemKvIdeal Cert.MemKvIdeal.Gen Idealize.ShloMosaic Idealize.ShloMosaic.TcCoe Idealize.SL.Sem

variable (m : (ℓ : Loc nD τ sig) → Buf (Elt Ideal) ℓ)

/-- The product of an 8192 × 4096 array and a 4096 × 10240 array, element by element. -/
def prod (x : S1024x4096.Idx → EReal) (w : S4096x2048.Idx → EReal) : S1024x2048.Idx → EReal :=
  fun i => ∑ k : Fin 4096, x (ix2 (i 0) k) * w (ix2 k (i 1))

theorem idx : ∀ t : Fin cfg0.N,
    win0_0.index t 0 = win0_2.index t 0 ∧ win0_0.index t 1 = 0 ∧ win0_1.index t 0 = 0 ∧ win0_1.index t 1 = win0_2.index t 1 :=
  (by decide +kernel : ∀ t : Fin grid0.N, _)

/-- After the run the result array is the product of the two arguments. -/
theorem final (c : Dev nD) : (dats m 0 c).arrAt 2 (cfgs 0).N = prod (V m c main_arg0) (V m c main_arg1) := by
  refine (dats m 0 c).arrAt_eq_of_covers 2 _ (by decide +kernel) fun t hf y => ?_
  obtain ⟨h0, h1, h2, h3⟩ := idx t
  blk_simp
  rw [after0_2]
  frame_out
  idx_vars y
  pointwise [k0_pay1, prod]
  blk_simp [iblk]
  refine Sums.sum_congr_ereal fun k => ?_
  congr 2
  · funext a
    apply Fin.ext
    match a with
    | ⟨0, _⟩ => blk_simp [h0]
    | ⟨1, _⟩ => blk_simp [h1]
  · funext a
    apply Fin.ext
    match a with
    | ⟨0, _⟩ => blk_simp [h2]
    | ⟨1, _⟩ => blk_simp [h3]

/-- The kernel's run: the result array ends at the matrix product of the two arguments, which stay as they were. -/
theorem run (ρ : Dev nD → PrngReg) :
    θ_run defs (onTc (τ := τ) (main (F := Ideal))) ⟨m, fun _ => 0, ρ⟩ fun r => ∀ c : Dev nD,
      r.2.mem ((c.tc : Thread nD τ).loc main_v0)
          = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(Value.post2 m r h c).trans (final m c),
      Value.kept_main_arg0 m r h c, Value.kept_main_arg1 m r h c⟩)
    (run_main m ρ)

end Cert.MemKvIdeal.Product

end
-- ==== Proof.MemKvClaim.lean ====
/- The projection of the memory rows: what the reference computes, and the claims about the two programs. -/
module

public import proofs.«01_k».proof.Defs
public import proofs.«01_k».proof.Proof.MemKv
public import proofs.«01_k».proof.Proof.Gen.MemKv.Frame
public import proofs.«01_k».proof.Proof.Gen.MemKvRefIdeal.Run
public import Idealize.ShloMosaic.Lib.Tactic.CleanTypes
public import Idealize.ShloMosaic.Lib.Claim

@[expose] public section

set_option maxRecDepth 16384

noncomputable section

namespace Cert.MemKvRefIdeal.Product

open Cert.MemKvRefIdeal Cert.MemKvRefIdeal.Gen Idealize.ShloMosaic Idealize.ShloMosaic.TcCoe Idealize.SL.Sem

/-- The reference's term, the whole-array product of the two arguments, is the product
    the kernel leaves. -/
theorem value (x : FVec Ideal S1024x4096 .f32) (w : FVec Ideal S4096x2048 .f32) :
    (truncf .bf16 (Host.dotGeneral dot_S1024x4096_S4096x2048_S1024x2048_1_0_0_1_n_n none x w)
      bitsLt_bf16_f32 : FVec Ideal S1024x2048 .bf16) = Cert.MemKvIdeal.Product.prod x w := by
  funext i
  idx_vars i
  clean_types
  pointwise [Cert.MemKvIdeal.Product.prod]

end Cert.MemKvRefIdeal.Product

namespace Cert.Proof.MemKvClaims

open Idealize.ShloMosaic Idealize.SL.Sem

/-- The kernel runs, faults nowhere, and leaves its arguments and the counters as they were. -/
theorem frame : Cert.quiescent_MemKv := fun m ρ _ => Cert.MemKv.Gen.frame m ρ
/-- So does the kernel over the extended reals. -/
theorem frame_ideal : Cert.quiescent_MemKvIdeal := fun m ρ _ => Cert.MemKvIdeal.Gen.frame m ρ
/-- So does the reference, which has no counters. -/
theorem frame_ref : Cert.quiescent_MemKvRefIdeal := fun m ρ _ =>
  (θ_run Cert.MemKvRefIdeal.defs _ _).mono (fun r h => ⟨fun c => (h c).2,
      Idealize.ShloMosaic.sem_eq_zero_of_no_sems (by decide) r.2⟩)
    (Cert.MemKvRefIdeal.Value.run (F := Ideal) m ρ)
/-- The kernel over the extended reals is the kernel, no operation exchanged. -/
theorem preserves : Cert.preserves_MemKv_MemKvIdeal := trivial
/-- From arguments that agree the kernel and the reference end with the same result array: the product. -/
theorem algebraic : Cert.algebraic_MemKvIdeal_MemKvRefIdeal := by
  intro m ρ m' ρ' _ hag
  refine ⟨_, Cert.MemKvIdeal.Product.run m ρ, ?_⟩
  refine (θ_run Cert.MemKvRefIdeal.defs _ _).mono (fun _ h c => ⟨(h c).1.trans ?_, (h c).2⟩)
    (Cert.MemKvRefIdeal.Value.run (F := Ideal) m' ρ')
  rw [(hag c).1, (hag c).2]
  exact Cert.MemKvRefIdeal.Product.value _ _

end Cert.Proof.MemKvClaims

end
-- ==== Proof.OutProj.lean ====
/- The input projection: the value of every element of the kernel's result, and its agreement with one product. -/
module

public import proofs.«01_k».proof.Proof.Gen.OutProjIdeal.Value
public import Idealize.ShloMosaic.Lib.Pipeline.ValueKit
public import Idealize.ShloMosaic.Lib.Pointwise
public import proofs.«01_k».proof.Proof.Sums

@[expose] public section

set_option maxRecDepth 16384

noncomputable section

namespace Cert.OutProjIdeal.Product

open Cert.OutProjIdeal Cert.OutProjIdeal.Gen Idealize.ShloMosaic Idealize.ShloMosaic.TcCoe Idealize.SL.Sem

variable (m : (ℓ : Loc nD τ sig) → Buf (Elt Ideal) ℓ)

/-- The product of an 8192 × 4096 array and a 4096 × 10240 array, element by element. -/
def prod (x : S8192x4096.Idx → EReal) (w : S4096x4096.Idx → EReal) : S8192x4096.Idx → EReal :=
  fun i => ∑ k : Fin 4096, x (ix2 (i 0) k) * w (ix2 k (i 1))

theorem idx : ∀ t : Fin cfg0.N,
    win0_0.index t 0 = win0_2.index t 0 ∧ win0_0.index t 1 = 0 ∧ win0_1.index t 0 = 0 ∧ win0_1.index t 1 = win0_2.index t 1 :=
  (by decide +kernel : ∀ t : Fin grid0.N, _)

/-- After the run the result array is the product of the two arguments. -/
theorem final (c : Dev nD) : (dats m 0 c).arrAt 2 (cfgs 0).N = prod (V m c main_arg0) (V m c main_arg1) := by
  refine (dats m 0 c).arrAt_eq_of_covers 2 _ (by decide +kernel) fun t hf y => ?_
  obtain ⟨h0, h1, h2, h3⟩ := idx t
  blk_simp
  rw [after0_2]
  frame_out
  idx_vars y
  pointwise [k0_pay1, prod]
  blk_simp [iblk]
  refine Sums.sum_congr_ereal fun k => ?_
  congr 2
  · funext a
    apply Fin.ext
    match a with
    | ⟨0, _⟩ => blk_simp [h0]
    | ⟨1, _⟩ => blk_simp [h1]
  · funext a
    apply Fin.ext
    match a with
    | ⟨0, _⟩ => blk_simp [h2]
    | ⟨1, _⟩ => blk_simp [h3]

/-- The kernel's run: the result array ends at the matrix product of the two arguments, which stay as they were. -/
theorem run (ρ : Dev nD → PrngReg) :
    θ_run defs (onTc (τ := τ) (main (F := Ideal))) ⟨m, fun _ => 0, ρ⟩ fun r => ∀ c : Dev nD,
      r.2.mem ((c.tc : Thread nD τ).loc main_v0)
          = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(Value.post2 m r h c).trans (final m c),
      Value.kept_main_arg0 m r h c, Value.kept_main_arg1 m r h c⟩)
    (run_main m ρ)

end Cert.OutProjIdeal.Product

end
-- ==== Proof.OutProjClaim.lean ====
/- The output projection: what the reference computes, and the claims about the two programs. -/
module

public import proofs.«01_k».proof.Defs
public import proofs.«01_k».proof.Proof.OutProj
public import proofs.«01_k».proof.Proof.Gen.OutProj.Frame
public import proofs.«01_k».proof.Proof.Gen.OutProjRefIdeal.Run
public import Idealize.ShloMosaic.Lib.Tactic.CleanTypes
public import Idealize.ShloMosaic.Lib.Claim

@[expose] public section

set_option maxRecDepth 16384

noncomputable section

namespace Cert.OutProjRefIdeal.Product

open Cert.OutProjRefIdeal Cert.OutProjRefIdeal.Gen Idealize.ShloMosaic Idealize.ShloMosaic.TcCoe Idealize.SL.Sem

/-- The reference's term, the whole-array product of the widened first argument with the second, is the product
    the kernel leaves. -/
theorem value (x : FVec Ideal S8192x4096 .bf16) (w : FVec Ideal S4096x4096 .f32) :
    (Host.dotGeneral dot_S8192x4096_S4096x4096_S8192x4096_1_0_0_1_n_n none (extf .f32 x bitsLt_bf16_f32) w
      : FVec Ideal S8192x4096 .f32) = Cert.OutProjIdeal.Product.prod x w := by
  funext i
  idx_vars i
  clean_types
  pointwise [Cert.OutProjIdeal.Product.prod]

end Cert.OutProjRefIdeal.Product

namespace Cert.Proof.OutProjClaims

open Idealize.ShloMosaic Idealize.SL.Sem

/-- The kernel runs, faults nowhere, and leaves its arguments and the counters as they were. -/
theorem frame : Cert.quiescent_OutProj := fun m ρ _ => Cert.OutProj.Gen.frame m ρ
/-- So does the kernel over the extended reals. -/
theorem frame_ideal : Cert.quiescent_OutProjIdeal := fun m ρ _ => Cert.OutProjIdeal.Gen.frame m ρ
/-- So does the reference, which has no counters. -/
theorem frame_ref : Cert.quiescent_OutProjRefIdeal := fun m ρ _ =>
  (θ_run Cert.OutProjRefIdeal.defs _ _).mono (fun r h => ⟨fun c => (h c).2,
      Idealize.ShloMosaic.sem_eq_zero_of_no_sems (by decide) r.2⟩)
    (Cert.OutProjRefIdeal.Value.run (F := Ideal) m ρ)
/-- The kernel over the extended reals is the kernel, no operation exchanged. -/
theorem preserves : Cert.preserves_OutProj_OutProjIdeal := trivial
/-- From arguments that agree the kernel and the reference end with the same result array: the product. -/
theorem algebraic : Cert.algebraic_OutProjIdeal_OutProjRefIdeal := by
  intro m ρ m' ρ' _ hag
  refine ⟨_, Cert.OutProjIdeal.Product.run m ρ, ?_⟩
  refine (θ_run Cert.OutProjRefIdeal.defs _ _).mono (fun _ h c => ⟨(h c).1.trans ?_, (h c).2⟩)
    (Cert.OutProjRefIdeal.Value.run (F := Ideal) m' ρ')
  rw [(hag c).1, (hag c).2]
  exact Cert.OutProjRefIdeal.Product.value _ _

end Cert.Proof.OutProjClaims

end
-- ==== Proof.Cast.lean ====
/- The cast of the activations: the value of every element of the kernel's result. -/
module

public import proofs.«01_k».proof.Proof.Gen.CastIdeal.Value
public import Idealize.ShloMosaic.Lib.Pipeline.ValueKit
public import Idealize.ShloMosaic.Lib.Pointwise

@[expose] public section

set_option maxRecDepth 16384

noncomputable section

namespace Cert.CastIdeal.Rounded

open Cert.CastIdeal Cert.CastIdeal.Gen Idealize.ShloMosaic Idealize.ShloMosaic.TcCoe Idealize.SL.Sem

variable (m : (ℓ : Loc nD τ sig) → Buf (Elt Ideal) ℓ)

/-- An array at the narrower format: over the extended reals every element is what it was. -/
def narrow (x : S8192x4096.Idx → EReal) : S8192x4096.Idx → EReal := fun i => x (ix2 (i 0) (i 1))

/-- After the run the result array is the argument, narrowed: both are cut into the same blocks. -/
theorem final (c : Dev nD) : (dats m 0 c).arrAt 1 (cfgs 0).N = narrow (V m c main_arg0) := by
  refine (dats m 0 c).arrAt_eq_of_covers 1 _ (by decide +kernel) fun t hf y => ?_
  blk_simp
  rw [after0_1]
  frame_out
  idx_vars y
  pointwise [k0_pay1, narrow]
  blk_simp [iblk]
  congr 1

/-- The kernel's run: the result array ends at the argument narrowed, and the argument stays as it was. -/
theorem run (ρ : Dev nD → PrngReg) :
    θ_run defs (onTc (τ := τ) (main (F := Ideal))) ⟨m, fun _ => 0, ρ⟩ fun r => ∀ c : Dev nD,
      r.2.mem ((c.tc : Thread nD τ).loc main_v0) = narrow (m ((c.tc : Thread nD τ).loc main_arg0))
      ∧ r.2.mem ((c.tc : Thread nD τ).loc main_arg0) = m ((c.tc : Thread nD τ).loc main_arg0) :=
  (θ_run defs _ _).mono (fun r h c => ⟨(Value.post1 m r h c).trans (final m c), Value.kept_main_arg0 m r h c⟩)
    (run_main m ρ)

end Cert.CastIdeal.Rounded

end
-- ==== Proof.CastClaim.lean ====
/- The cast of the activations: what the reference computes, and the claims about the two programs. -/
module

public import proofs.«01_k».proof.Defs
public import proofs.«01_k».proof.Proof.Cast
public import proofs.«01_k».proof.Proof.Gen.Cast.Frame
public import proofs.«01_k».proof.Proof.Gen.CastRefIdeal.Run
public import Idealize.ShloMosaic.Lib.Tactic.CleanTypes
public import Idealize.ShloMosaic.Lib.Claim

@[expose] public section

set_option maxRecDepth 16384

noncomputable section

namespace Cert.CastRefIdeal.Rounded

open Cert.CastRefIdeal Cert.CastRefIdeal.Gen Idealize.ShloMosaic Idealize.ShloMosaic.TcCoe Idealize.SL.Sem

/-- The reference's term, the whole array rounded, is the array the kernel leaves. -/
theorem value (x : FVec Ideal S8192x4096 .f32) :
    (truncf .bf16 x bitsLt_bf16_f32 : FVec Ideal S8192x4096 .bf16) = Cert.CastIdeal.Rounded.narrow x := by
  funext i
  idx_vars i
  clean_types
  pointwise [Cert.CastIdeal.Rounded.narrow]

end Cert.CastRefIdeal.Rounded

namespace Cert.Proof.CastClaims

open Idealize.ShloMosaic Idealize.SL.Sem

/-- The kernel runs, faults nowhere, and leaves its argument and the counters as they were. -/
theorem frame : Cert.quiescent_Cast := fun m ρ _ => Cert.Cast.Gen.frame m ρ
/-- So does the kernel over the extended reals. -/
theorem frame_ideal : Cert.quiescent_CastIdeal := fun m ρ _ => Cert.CastIdeal.Gen.frame m ρ
/-- So does the reference, which has no counters. -/
theorem frame_ref : Cert.quiescent_CastRefIdeal := fun m ρ _ =>
  (θ_run Cert.CastRefIdeal.defs _ _).mono (fun r h => ⟨fun c => (h c).2,
      Idealize.ShloMosaic.sem_eq_zero_of_no_sems (by decide) r.2⟩)
    (Cert.CastRefIdeal.Value.run (F := Ideal) m ρ)
/-- The kernel over the extended reals is the kernel, no operation exchanged. -/
theorem preserves : Cert.preserves_Cast_CastIdeal := trivial
/-- From arguments that agree the kernel and the reference end with the same result array. -/
theorem algebraic : Cert.algebraic_CastIdeal_CastRefIdeal := by
  intro m ρ m' ρ' _ hag
  refine ⟨_, Cert.CastIdeal.Rounded.run m ρ, ?_⟩
  refine (θ_run Cert.CastRefIdeal.defs _ _).mono (fun _ h c => ⟨(h c).1.trans ?_, (h c).2⟩)
    (Cert.CastRefIdeal.Value.run (F := Ideal) m' ρ')
  rw [hag c]
  exact Cert.CastRefIdeal.Rounded.value _

end Cert.Proof.CastClaims

end
-- ==== Proof.lean ====
module

public import proofs.«01_k».proof.Defs
public import proofs.«01_k».proof.Proof.BandClaim
public import proofs.«01_k».proof.Proof.Gen.Band
public import proofs.«01_k».proof.Proof.Gen.BandIdeal
public import proofs.«01_k».proof.Proof.Gen.BandRefIdeal
public import proofs.«01_k».proof.Proof.Gen.Band.Frame
public import proofs.«01_k».proof.Proof.Gen.BandIdeal.Value
public import proofs.«01_k».proof.Proof.Gen.BandRefIdeal.Run
public import proofs.«01_k».proof.Proof.DiffClaim
public import proofs.«01_k».proof.Proof.Gen.Diff
public import proofs.«01_k».proof.Proof.Gen.DiffIdeal
public import proofs.«01_k».proof.Proof.Gen.DiffRefIdeal
public import proofs.«01_k».proof.Proof.Gen.Diff.Frame
public import proofs.«01_k».proof.Proof.Gen.DiffIdeal.Value
public import proofs.«01_k».proof.Proof.Gen.DiffRefIdeal.Run
public import proofs.«01_k».proof.Proof.CrossClaim
public import proofs.«01_k».proof.Proof.Gen.Cross
public import proofs.«01_k».proof.Proof.Gen.CrossIdeal
public import proofs.«01_k».proof.Proof.Gen.CrossRefIdeal
public import proofs.«01_k».proof.Proof.Gen.Cross.Frame
public import proofs.«01_k».proof.Proof.Gen.CrossIdeal.Value
public import proofs.«01_k».proof.Proof.Gen.CrossRefIdeal.Run
public import proofs.«01_k».proof.Proof.MergeClaim
public import proofs.«01_k».proof.Proof.Gen.Merge
public import proofs.«01_k».proof.Proof.Gen.MergeIdeal
public import proofs.«01_k».proof.Proof.Gen.MergeRefIdeal
public import proofs.«01_k».proof.Proof.Gen.Merge.Frame
public import proofs.«01_k».proof.Proof.Gen.MergeIdeal.Value
public import proofs.«01_k».proof.Proof.Gen.MergeRefIdeal.Run
public import proofs.«01_k».proof.Proof.InProjClaim
public import proofs.«01_k».proof.Proof.Gen.InProj
public import proofs.«01_k».proof.Proof.Gen.InProjIdeal
public import proofs.«01_k».proof.Proof.Gen.InProjRefIdeal
public import proofs.«01_k».proof.Proof.Gen.InProj.Frame
public import proofs.«01_k».proof.Proof.Gen.InProjIdeal.Value
public import proofs.«01_k».proof.Proof.Gen.InProjRefIdeal.Run
public import proofs.«01_k».proof.Proof.MemKvClaim
public import proofs.«01_k».proof.Proof.Gen.MemKv
public import proofs.«01_k».proof.Proof.Gen.MemKvIdeal
public import proofs.«01_k».proof.Proof.Gen.MemKvRefIdeal
public import proofs.«01_k».proof.Proof.Gen.MemKv.Frame
public import proofs.«01_k».proof.Proof.Gen.MemKvIdeal.Value
public import proofs.«01_k».proof.Proof.Gen.MemKvRefIdeal.Run
public import proofs.«01_k».proof.Proof.OutProjClaim
public import proofs.«01_k».proof.Proof.Gen.OutProj
public import proofs.«01_k».proof.Proof.Gen.OutProjIdeal
public import proofs.«01_k».proof.Proof.Gen.OutProjRefIdeal
public import proofs.«01_k».proof.Proof.Gen.OutProj.Frame
public import proofs.«01_k».proof.Proof.Gen.OutProjIdeal.Value
public import proofs.«01_k».proof.Proof.Gen.OutProjRefIdeal.Run
public import proofs.«01_k».proof.Proof.CastClaim
public import proofs.«01_k».proof.Proof.Gen.Cast
public import proofs.«01_k».proof.Proof.Gen.CastIdeal
public import proofs.«01_k».proof.Proof.Gen.CastRefIdeal
public import proofs.«01_k».proof.Proof.Gen.Cast.Frame
public import proofs.«01_k».proof.Proof.Gen.CastIdeal.Value
public import proofs.«01_k».proof.Proof.Gen.CastRefIdeal.Run
public import proofs.«01_k».proof.Proof.Gen.Pre_finite_scores

@[expose] public section

set_option maxRecDepth 16384

namespace Cert.Proof

/-- Every claim of the certificate. -/
theorem claim : Cert.Claim :=
  ⟨Cert.Band.Gen.facts, Cert.BandIdeal.Gen.facts, Cert.BandRefIdeal.Gen.facts,
   Cert.Diff.Gen.facts, Cert.DiffIdeal.Gen.facts, Cert.DiffRefIdeal.Gen.facts,
   Cert.Cross.Gen.facts, Cert.CrossIdeal.Gen.facts, Cert.CrossRefIdeal.Gen.facts,
   Cert.Merge.Gen.facts, Cert.MergeIdeal.Gen.facts, Cert.MergeRefIdeal.Gen.facts,
   Cert.InProj.Gen.facts, Cert.InProjIdeal.Gen.facts, Cert.InProjRefIdeal.Gen.facts,
   Cert.MemKv.Gen.facts, Cert.MemKvIdeal.Gen.facts, Cert.MemKvRefIdeal.Gen.facts,
   Cert.OutProj.Gen.facts, Cert.OutProjIdeal.Gen.facts, Cert.OutProjRefIdeal.Gen.facts,
   Cert.Cast.Gen.facts, Cert.CastIdeal.Gen.facts, Cert.CastRefIdeal.Gen.facts,
   Cert.Pre_finite_scores.Gen.facts,
   BandClaims.frame, BandClaims.frame_ideal, BandClaims.frame_ideal_finite, BandClaims.frame_ref,
   BandClaims.frame_ref_finite, DiffClaims.frame, DiffClaims.frame_ideal, DiffClaims.frame_ref,
   CrossClaims.frame, CrossClaims.frame_ideal, CrossClaims.frame_ref, MergeClaims.frame,
   MergeClaims.frame_ideal, MergeClaims.frame_ref, InProjClaims.frame, InProjClaims.frame_ideal,
   InProjClaims.frame_ref, MemKvClaims.frame, MemKvClaims.frame_ideal, MemKvClaims.frame_ref,
   OutProjClaims.frame, OutProjClaims.frame_ideal, OutProjClaims.frame_ref, CastClaims.frame,
   CastClaims.frame_ideal, CastClaims.frame_ref, BandClaims.preserves, BandClaims.algebraic,
   DiffClaims.preserves, DiffClaims.algebraic, CrossClaims.preserves, CrossClaims.algebraic,
   MergeClaims.preserves, MergeClaims.algebraic, InProjClaims.preserves, InProjClaims.algebraic,
   MemKvClaims.preserves, MemKvClaims.algebraic, OutProjClaims.preserves, OutProjClaims.algebraic,
   CastClaims.preserves, CastClaims.algebraic⟩

end Cert.Proof
